-- ==== Defs.lean ====
def Pre_Kernel [hPre_rot0_Kernel : Cert.Pre_rot0_Kernel.Facts] (m : (ℓ : Loc Cert.Kernel.nD Cert.Kernel.τ Cert.Kernel.sig) → Buf (Elt Bits) ℓ) : Prop :=
  ∀ c : Dev Cert.Kernel.nD,
    (Cert.Pre_rot0_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rot1_Kernel [hPre_rot1_Kernel : Cert.Pre_rot1_Kernel.Facts] (m : (ℓ : Loc Cert.Kernel.nD Cert.Kernel.τ Cert.Kernel.sig) → Buf (Elt Bits) ℓ) : Prop :=
  ∀ c : Dev Cert.Kernel.nD,
    (Cert.Pre_rot1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rot2_Kernel [hPre_rot2_Kernel : Cert.Pre_rot2_Kernel.Facts] (m : (ℓ : Loc Cert.Kernel.nD Cert.Kernel.τ Cert.Kernel.sig) → Buf (Elt Bits) ℓ) : Prop :=
  ∀ c : Dev Cert.Kernel.nD,
    (Cert.Pre_rot2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rot3_Kernel [hPre_rot3_Kernel : Cert.Pre_rot3_Kernel.Facts] (m : (ℓ : Loc Cert.Kernel.nD Cert.Kernel.τ Cert.Kernel.sig) → Buf (Elt Bits) ℓ) : Prop :=
  ∀ c : Dev Cert.Kernel.nD,
    (Cert.Pre_rot3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rot0_Kernel : Cert.Pre_rot0_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rot0_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rot1_Kernel [hPre_rot1_Kernel : Cert.Pre_rot1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rot1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rot2_Kernel [hPre_rot2_Kernel : Cert.Pre_rot2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rot2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rot3_Kernel [hPre_rot3_Kernel : Cert.Pre_rot3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rot3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rot0_ReferenceIdeal [hPre_rot0_ReferenceIdeal : Cert.Pre_rot0_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rot0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rot1_ReferenceIdeal [hPre_rot1_ReferenceIdeal : Cert.Pre_rot1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rot1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rot2_ReferenceIdeal [hPre_rot2_ReferenceIdeal : Cert.Pre_rot2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rot2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rot3_ReferenceIdeal [hPre_rot3_ReferenceIdeal : Cert.Pre_rot3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rot3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rot0_Kernel : Cert.Pre_rot0_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rot1_Kernel [hKernel : Cert.Kernel.Facts] [hPre_rot1_Kernel : Cert.Pre_rot1_Kernel.Facts] : Prop :=
  ∀ (m : (ℓ : Loc Cert.Kernel.nD Cert.Kernel.τ Cert.Kernel.sig) → Buf (Elt Bits) ℓ) (g : Dev Cert.Kernel.nD → PrngReg), Pre_Kernel_rot1_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rot2_Kernel [hKernel : Cert.Kernel.Facts] [hPre_rot2_Kernel : Cert.Pre_rot2_Kernel.Facts] : Prop :=
  ∀ (m : (ℓ : Loc Cert.Kernel.nD Cert.Kernel.τ Cert.Kernel.sig) → Buf (Elt Bits) ℓ) (g : Dev Cert.Kernel.nD → PrngReg), Pre_Kernel_rot2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rot3_Kernel [hKernel : Cert.Kernel.Facts] [hPre_rot3_Kernel : Cert.Pre_rot3_Kernel.Facts] : Prop :=
  ∀ (m : (ℓ : Loc Cert.Kernel.nD Cert.Kernel.τ Cert.Kernel.sig) → Buf (Elt Bits) ℓ) (g : Dev Cert.Kernel.nD → PrngReg), Pre_Kernel_rot3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rot0_Kernel : Cert.Pre_rot0_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rot1_Kernel [hKernelIdeal : Cert.KernelIdeal.Facts] [hPre_rot1_Kernel : Cert.Pre_rot1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rot1_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rot2_Kernel [hKernelIdeal : Cert.KernelIdeal.Facts] [hPre_rot2_Kernel : Cert.Pre_rot2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rot2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rot3_Kernel [hKernelIdeal : Cert.KernelIdeal.Facts] [hPre_rot3_Kernel : Cert.Pre_rot3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rot3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rot0_ReferenceIdeal [hReferenceIdeal : Cert.ReferenceIdeal.Facts] [hPre_rot0_ReferenceIdeal : Cert.Pre_rot0_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rot0_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rot1_ReferenceIdeal [hReferenceIdeal : Cert.ReferenceIdeal.Facts] [hPre_rot1_ReferenceIdeal : Cert.Pre_rot1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rot1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rot2_ReferenceIdeal [hReferenceIdeal : Cert.ReferenceIdeal.Facts] [hPre_rot2_ReferenceIdeal : Cert.Pre_rot2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rot2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rot3_ReferenceIdeal [hReferenceIdeal : Cert.ReferenceIdeal.Facts] [hPre_rot3_ReferenceIdeal : Cert.Pre_rot3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rot3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rot0_Kernel : Cert.Pre_rot0_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rot1_Kernel [hKernelIdeal : Cert.KernelIdeal.Facts] [hReferenceIdeal : Cert.ReferenceIdeal.Facts] [hPre_rot1_Kernel : Cert.Pre_rot1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rot1_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rot2_Kernel [hKernelIdeal : Cert.KernelIdeal.Facts] [hReferenceIdeal : Cert.ReferenceIdeal.Facts] [hPre_rot2_Kernel : Cert.Pre_rot2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rot2_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rot3_Kernel [hKernelIdeal : Cert.KernelIdeal.Facts] [hReferenceIdeal : Cert.ReferenceIdeal.Facts] [hPre_rot3_Kernel : Cert.Pre_rot3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rot3_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rot0_Kernel : Cert.Pre_rot0_Kernel.Facts) (hPre_rot1_Kernel : Cert.Pre_rot1_Kernel.Facts) (hPre_rot2_Kernel : Cert.Pre_rot2_Kernel.Facts) (hPre_rot3_Kernel : Cert.Pre_rot3_Kernel.Facts) (hPre_rot0_ReferenceIdeal : Cert.Pre_rot0_ReferenceIdeal.Facts) (hPre_rot1_ReferenceIdeal : Cert.Pre_rot1_ReferenceIdeal.Facts) (hPre_rot2_ReferenceIdeal : Cert.Pre_rot2_ReferenceIdeal.Facts) (hPre_rot3_ReferenceIdeal : Cert.Pre_rot3_ReferenceIdeal.Facts),
    quiescent_Kernel (hKernel := hKernel) (hPre_rot0_Kernel := hPre_rot0_Kernel)
    ∧ quiescent_Kernel_pre_rot1_Kernel (hKernel := hKernel) (hPre_rot1_Kernel := hPre_rot1_Kernel)
    ∧ quiescent_Kernel_pre_rot2_Kernel (hKernel := hKernel) (hPre_rot2_Kernel := hPre_rot2_Kernel)
    ∧ quiescent_Kernel_pre_rot3_Kernel (hKernel := hKernel) (hPre_rot3_Kernel := hPre_rot3_Kernel)
    ∧ quiescent_KernelIdeal (hKernelIdeal := hKernelIdeal) (hPre_rot0_Kernel := hPre_rot0_Kernel)
    ∧ quiescent_KernelIdeal_pre_rot1_Kernel (hKernelIdeal := hKernelIdeal) (hPre_rot1_Kernel := hPre_rot1_Kernel)
    ∧ quiescent_KernelIdeal_pre_rot2_Kernel (hKernelIdeal := hKernelIdeal) (hPre_rot2_Kernel := hPre_rot2_Kernel)
    ∧ quiescent_KernelIdeal_pre_rot3_Kernel (hKernelIdeal := hKernelIdeal) (hPre_rot3_Kernel := hPre_rot3_Kernel)
    ∧ quiescent_ReferenceIdeal (hReferenceIdeal := hReferenceIdeal)
    ∧ quiescent_ReferenceIdeal_pre_rot0_ReferenceIdeal (hReferenceIdeal := hReferenceIdeal) (hPre_rot0_ReferenceIdeal := hPre_rot0_ReferenceIdeal)
    ∧ quiescent_ReferenceIdeal_pre_rot1_ReferenceIdeal (hReferenceIdeal := hReferenceIdeal) (hPre_rot1_ReferenceIdeal := hPre_rot1_ReferenceIdeal)
    ∧ quiescent_ReferenceIdeal_pre_rot2_ReferenceIdeal (hReferenceIdeal := hReferenceIdeal) (hPre_rot2_ReferenceIdeal := hPre_rot2_ReferenceIdeal)
    ∧ quiescent_ReferenceIdeal_pre_rot3_ReferenceIdeal (hReferenceIdeal := hReferenceIdeal) (hPre_rot3_ReferenceIdeal := hPre_rot3_ReferenceIdeal)
    ∧ preserves_Kernel_KernelIdeal
    ∧ algebraic_KernelIdeal_ReferenceIdeal (hKernelIdeal := hKernelIdeal) (hReferenceIdeal := hReferenceIdeal) (hPre_rot0_Kernel := hPre_rot0_Kernel)
    ∧ algebraic_KernelIdeal_ReferenceIdeal_pre_rot1_Kernel (hKernelIdeal := hKernelIdeal) (hReferenceIdeal := hReferenceIdeal) (hPre_rot1_Kernel := hPre_rot1_Kernel)
    ∧ algebraic_KernelIdeal_ReferenceIdeal_pre_rot2_Kernel (hKernelIdeal := hKernelIdeal) (hReferenceIdeal := hReferenceIdeal) (hPre_rot2_Kernel := hPre_rot2_Kernel)
    ∧ algebraic_KernelIdeal_ReferenceIdeal_pre_rot3_Kernel (hKernelIdeal := hKernelIdeal) (hReferenceIdeal := hReferenceIdeal) (hPre_rot3_Kernel := hPre_rot3_Kernel)
-- ==== Pre_rot0_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_rot0_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 2#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 3#32
  let main_v13 : IVec S_ 1 := cmpi .eq main_v12 main_c_2
  let main_v14 : IVec S_ 1 := andi main_v10 main_v13
  main_v14
-- ==== Pre_rot1_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_rot1_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_rot2_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_rot2_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_rot3_Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_rot3_ReferenceIdeal.lean ====
abbrev S4x2048x1024 : Shape := ⟨3, ![4, 2048, 1024]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x2048x1024 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Kernel.lean ====
abbrev S1x2048x1024 : Shape := ⟨3, ![1, 2048, 1024]⟩
abbrev S4 : Shape := ⟨1, ![4]⟩
abbrev S1 : Shape := ⟨1, ![1]⟩
abbrev S_ : Shape := ⟨0, ![]⟩
abbrev S1x128x1024 : Shape := ⟨3, ![1, 128, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .f32⟩
  | .hbm, ⟨1, _⟩ => ⟨S4, .i32⟩
  | .hbm, ⟨2, _⟩ => ⟨S1x2048x1024, .f32⟩
  | .local _ .vmem, ⟨0, _⟩ => ⟨S1x2048x1024, .f32⟩
  | .local _ .vmem, ⟨1, _⟩ => ⟨S1x2048x1024, .f32⟩
  | .local _ .smem, ⟨0, _⟩ => ⟨S4, .i32⟩
  | _, _ => ⟨S1x2048x1024, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) (v9 : BitVec 32) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v60 : BitVec 32 := Scalar.muli v2 c16_i32_31
  let v61 : BitVec 32 := Scalar.addi c0_i32_32 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v62 : BitVec 32 := Scalar.muli v5 c4_i32_33
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v10 : BitVec 32 := Scalar.subi c4_i32_2 v9
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v48 : BitVec 32 := Scalar.addi v8 v20
  let c4_i32_24 : BitVec 32 := 4#32
  let c0_i32_25 : BitVec 32 := 0#32
  let v49 : BitVec 1 := Scalar.cmpi .eq c4_i32_24 c0_i32_25
  let c1_i32_26 : BitVec 32 := 1#32
  let v50 : BitVec 32 := Scalar.select v49 c1_i32_26 c4_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c1_i32_34 : BitVec 32 := 1#32
  let v64 : BitVec 32 := Scalar.muli v58 c1_i32_34
  let v65 : BitVec 32 := Scalar.addi v63 v64
  v65.toNat

def k0_dev2 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v66 : BitVec 32 := Scalar.muli v2 c16_i32_36
  let v67 : BitVec 32 := Scalar.addi c0_i32_37 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_38 : BitVec 32 := 4#32
  let v68 : BitVec 32 := Scalar.muli v46 c4_i32_38
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v70 : BitVec 32 := Scalar.muli v8 c1_i32_39
  let v71 : BitVec 32 := Scalar.addi v69 v70
  v71.toNat
def k0_dev3 (d0 : Dev nD) : Nat :=
  let c0_i32_42 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_41 : BitVec 32 := 16#32
  let v72 : BitVec 32 := Scalar.muli v47 c16_i32_41
  let v73 : BitVec 32 := Scalar.addi c0_i32_42 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v74 : BitVec 32 := Scalar.muli v5 c4_i32_43
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v76 : BitVec 32 := Scalar.muli v8 c1_i32_44
  let v77 : BitVec 32 := Scalar.addi v75 v76
  v77.toNat
def k0_dev4 (d0 : Dev nD) : Nat :=
  let c0_i32_47 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_46 : BitVec 32 := 16#32
  let v78 : BitVec 32 := Scalar.muli v47 c16_i32_46
  let v79 : BitVec 32 := Scalar.addi c0_i32_47 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_48 : BitVec 32 := 4#32
  let v80 : BitVec 32 := Scalar.muli v46 c4_i32_48
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v82 : BitVec 32 := Scalar.muli v8 c1_i32_49
  let v83 : BitVec 32 := Scalar.addi v81 v82
  v83.toNat
def k0_off1 (d0 : Dev nD) (c0_i32_51 : BitVec 32) : Fin 3 → Nat :=
  let c0_i32_61 : BitVec 32 := 0#32
  let c2_i32_20 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v42 : BitVec 32 := Scalar.muli c2_i32_20 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v43 : BitVec 32 := Scalar.addi v42 v41
  let c512_i32 : BitVec 32 := 512#32
  let v84 : BitVec 32 := Scalar.muli v43 c512_i32
  let v85 : BitVec 32 := Scalar.addi v84 c0_i32_51
  let c0_i32_62 : BitVec 32 := 0#32
  ![0, v85.toNat, 0]
def k0_dev5 (d0 : Dev nD) (v9 : BitVec 32) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v92 : BitVec 32 := Scalar.muli v2 c16_i32_57
  let v93 : BitVec 32 := Scalar.addi c0_i32_58 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v94 : BitVec 32 := Scalar.muli v5 c4_i32_59
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v10 : BitVec 32 := Scalar.subi c4_i32_2 v9
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.subi v8 v20
  let c4_i32_8 : BitVec 32 := 4#32
  let c0_i32_9 : BitVec 32 := 0#32
  let v22 : BitVec 1 := Scalar.cmpi .eq c4_i32_8 c0_i32_9
  let c1_i32_10 : BitVec 32 := 1#32
  let v23 : BitVec 32 := Scalar.select v22 c1_i32_10 c4_i32_8
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let c1_i32_60 : BitVec 32 := 1#32
  let v96 : BitVec 32 := Scalar.muli v31 c1_i32_60
  let v97 : BitVec 32 := Scalar.addi v95 v96
  v97.toNat
def k0_dev6 (d0 : Dev nD) (v9 : BitVec 32) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v104 : BitVec 32 := Scalar.muli v2 c16_i32_67
  let v105 : BitVec 32 := Scalar.addi c0_i32_68 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_69 : BitVec 32 := 4#32
  let v106 : BitVec 32 := Scalar.muli v5 c4_i32_69
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v10 : BitVec 32 := Scalar.subi c4_i32_2 v9
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.subi v8 v20
  let c4_i32_8 : BitVec 32 := 4#32
  let c0_i32_9 : BitVec 32 := 0#32
  let v22 : BitVec 1 := Scalar.cmpi .eq c4_i32_8 c0_i32_9
  let c1_i32_10 : BitVec 32 := 1#32
  let v23 : BitVec 32 := Scalar.select v22 c1_i32_10 c4_i32_8
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let c1_i32_70 : BitVec 32 := 1#32
  let v108 : BitVec 32 := Scalar.muli v31 c1_i32_70
  let v109 : BitVec 32 := Scalar.addi v107 v108
  v109.toNat
def k0_dev7 (d0 : Dev nD) (v9 : BitVec 32) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v116 : BitVec 32 := Scalar.muli v2 c16_i32_77
  let v117 : BitVec 32 := Scalar.addi c0_i32_78 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_79 : BitVec 32 := 4#32
  let v118 : BitVec 32 := Scalar.muli v5 c4_i32_79
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v10 : BitVec 32 := Scalar.subi c4_i32_2 v9
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.subi v8 v20
  let c4_i32_8 : BitVec 32 := 4#32
  let c0_i32_9 : BitVec 32 := 0#32
  let v22 : BitVec 1 := Scalar.cmpi .eq c4_i32_8 c0_i32_9
  let c1_i32_10 : BitVec 32 := 1#32
  let v23 : BitVec 32 := Scalar.select v22 c1_i32_10 c4_i32_8
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let c1_i32_80 : BitVec 32 := 1#32
  let v120 : BitVec 32 := Scalar.muli v31 c1_i32_80
  let v121 : BitVec 32 := Scalar.addi v119 v120
  v121.toNat
def k0_dev8 (d0 : Dev nD) (v9 : BitVec 32) : Nat :=
  let c0_i32_87 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_86 : BitVec 32 := 16#32
  let v128 : BitVec 32 := Scalar.muli v2 c16_i32_86
  let v129 : BitVec 32 := Scalar.addi c0_i32_87 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v130 : BitVec 32 := Scalar.muli v5 c4_i32_88
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v10 : BitVec 32 := Scalar.subi c4_i32_2 v9
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v21 : BitVec 32 := Scalar.subi v8 v20
  let c4_i32_8 : BitVec 32 := 4#32
  let c0_i32_9 : BitVec 32 := 0#32
  let v22 : BitVec 1 := Scalar.cmpi .eq c4_i32_8 c0_i32_9
  let c1_i32_10 : BitVec 32 := 1#32
  let v23 : BitVec 32 := Scalar.select v22 c1_i32_10 c4_i32_8
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let c1_i32_89 : BitVec 32 := 1#32
  let v132 : BitVec 32 := Scalar.muli v31 c1_i32_89
  let v133 : BitVec 32 := Scalar.addi v131 v132
  v133.toNat

def k0_chk1 (d0 : Dev nD) (v9 : BitVec 32) : Prop :=
  ((k0_dev1 d0 v9) < nD) ∧
  ((k0_dev5 d0 v9) < nD) ∧
  ((k0_dev6 d0 v9) < nD) ∧
  ((k0_dev7 d0 v9) < nD) ∧
  ((k0_dev8 d0 v9) < nD)
theorem k0_dev1_lt : ∀ (d0 : Dev nD) (v9 : BitVec 32) (k0_hw1 : k0_chk1 d0 v9), (k0_dev1 d0 v9) < nD := fun d0 v9 k0_hw1 => k0_hw1.1
theorem k0_dev5_lt : ∀ (d0 : Dev nD) (v9 : BitVec 32) (k0_hw1 : k0_chk1 d0 v9), (k0_dev5 d0 v9) < nD := fun d0 v9 k0_hw1 => k0_hw1.2.1
theorem k0_dev6_lt : ∀ (d0 : Dev nD) (v9 : BitVec 32) (k0_hw1 : k0_chk1 d0 v9), (k0_dev6 d0 v9) < nD := fun d0 v9 k0_hw1 => k0_hw1.2.2.1
theorem k0_dev7_lt : ∀ (d0 : Dev nD) (v9 : BitVec 32) (k0_hw1 : k0_chk1 d0 v9), (k0_dev7 d0 v9) < nD := fun d0 v9 k0_hw1 => k0_hw1.2.2.2.1
theorem k0_dev8_lt : ∀ (d0 : Dev nD) (v9 : BitVec 32) (k0_hw1 : k0_chk1 d0 v9), (k0_dev8 d0 v9) < nD := fun d0 v9 k0_hw1 => k0_hw1.2.2.2.2

def k0_dev9 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v156 : BitVec 32 := Scalar.muli v2 c16_i32_115
  let v157 : BitVec 32 := Scalar.addi c0_i32_116 v156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_117 : BitVec 32 := 4#32
  let v158 : BitVec 32 := Scalar.muli v46 c4_i32_117
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v160 : BitVec 32 := Scalar.muli v8 c1_i32_118
  let v161 : BitVec 32 := Scalar.addi v159 v160
  v161.toNat
def k0_dev10 (d0 : Dev nD) : Nat :=
  let c0_i32_126 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_125 : BitVec 32 := 16#32
  let v168 : BitVec 32 := Scalar.muli v47 c16_i32_125
  let v169 : BitVec 32 := Scalar.addi c0_i32_126 v168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_127 : BitVec 32 := 4#32
  let v170 : BitVec 32 := Scalar.muli v5 c4_i32_127
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v172 : BitVec 32 := Scalar.muli v8 c1_i32_128
  let v173 : BitVec 32 := Scalar.addi v171 v172
  v173.toNat
def k0_dev11 (d0 : Dev nD) : Nat :=
  let c0_i32_136 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_135 : BitVec 32 := 16#32
  let v180 : BitVec 32 := Scalar.muli v47 c16_i32_135
  let v181 : BitVec 32 := Scalar.addi c0_i32_136 v180
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_137 : BitVec 32 := 4#32
  let v182 : BitVec 32 := Scalar.muli v46 c4_i32_137
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v184 : BitVec 32 := Scalar.muli v8 c1_i32_138
  let v185 : BitVec 32 := Scalar.addi v183 v184
  v185.toNat
def k0_dev12 (d0 : Dev nD) : Nat :=
  let c0_i32_165 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_164 : BitVec 32 := 16#32
  let v208 : BitVec 32 := Scalar.muli v2 c16_i32_164
  let v209 : BitVec 32 := Scalar.addi c0_i32_165 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_166 : BitVec 32 := 4#32
  let v210 : BitVec 32 := Scalar.muli v46 c4_i32_166
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v212 : BitVec 32 := Scalar.muli v8 c1_i32_167
  let v213 : BitVec 32 := Scalar.addi v211 v212
  v213.toNat
def k0_dev13 (d0 : Dev nD) : Nat :=
  let c0_i32_175 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_174 : BitVec 32 := 16#32
  let v220 : BitVec 32 := Scalar.muli v47 c16_i32_174
  let v221 : BitVec 32 := Scalar.addi c0_i32_175 v220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_176 : BitVec 32 := 4#32
  let v222 : BitVec 32 := Scalar.muli v5 c4_i32_176
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v224 : BitVec 32 := Scalar.muli v8 c1_i32_177
  let v225 : BitVec 32 := Scalar.addi v223 v224
  v225.toNat
def k0_dev14 (d0 : Dev nD) : Nat :=
  let c0_i32_185 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_184 : BitVec 32 := 16#32
  let v232 : BitVec 32 := Scalar.muli v47 c16_i32_184
  let v233 : BitVec 32 := Scalar.addi c0_i32_185 v232
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_186 : BitVec 32 := 4#32
  let v234 : BitVec 32 := Scalar.muli v46 c4_i32_186
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v236 : BitVec 32 := Scalar.muli v8 c1_i32_187
  let v237 : BitVec 32 := Scalar.addi v235 v236
  v237.toNat
def k0_dev15 (d0 : Dev nD) : Nat :=
  let c0_i32_214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_213 : BitVec 32 := 16#32
  let v260 : BitVec 32 := Scalar.muli v2 c16_i32_213
  let v261 : BitVec 32 := Scalar.addi c0_i32_214 v260
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_215 : BitVec 32 := 4#32
  let v262 : BitVec 32 := Scalar.muli v46 c4_i32_215
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v264 : BitVec 32 := Scalar.muli v8 c1_i32_216
  let v265 : BitVec 32 := Scalar.addi v263 v264
  v265.toNat
def k0_dev16 (d0 : Dev nD) : Nat :=
  let c0_i32_224 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_223 : BitVec 32 := 16#32
  let v272 : BitVec 32 := Scalar.muli v47 c16_i32_223
  let v273 : BitVec 32 := Scalar.addi c0_i32_224 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_225 : BitVec 32 := 4#32
  let v274 : BitVec 32 := Scalar.muli v5 c4_i32_225
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v276 : BitVec 32 := Scalar.muli v8 c1_i32_226
  let v277 : BitVec 32 := Scalar.addi v275 v276
  v277.toNat
def k0_dev17 (d0 : Dev nD) : Nat :=
  let c0_i32_234 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_233 : BitVec 32 := 16#32
  let v284 : BitVec 32 := Scalar.muli v47 c16_i32_233
  let v285 : BitVec 32 := Scalar.addi c0_i32_234 v284
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_235 : BitVec 32 := 4#32
  let v286 : BitVec 32 := Scalar.muli v46 c4_i32_235
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v288 : BitVec 32 := Scalar.muli v8 c1_i32_236
  let v289 : BitVec 32 := Scalar.addi v287 v288
  v289.toNat
def k0_dev18 (d0 : Dev nD) : Nat :=
  let c0_i32_263 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_262 : BitVec 32 := 16#32
  let v312 : BitVec 32 := Scalar.muli v2 c16_i32_262
  let v313 : BitVec 32 := Scalar.addi c0_i32_263 v312
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_264 : BitVec 32 := 4#32
  let v314 : BitVec 32 := Scalar.muli v46 c4_i32_264
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_265 : BitVec 32 := 1#32
  let v316 : BitVec 32 := Scalar.muli v8 c1_i32_265
  let v317 : BitVec 32 := Scalar.addi v315 v316
  v317.toNat
def k0_dev19 (d0 : Dev nD) : Nat :=
  let c0_i32_273 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_272 : BitVec 32 := 16#32
  let v324 : BitVec 32 := Scalar.muli v47 c16_i32_272
  let v325 : BitVec 32 := Scalar.addi c0_i32_273 v324
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_274 : BitVec 32 := 4#32
  let v326 : BitVec 32 := Scalar.muli v5 c4_i32_274
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v328 : BitVec 32 := Scalar.muli v8 c1_i32_275
  let v329 : BitVec 32 := Scalar.addi v327 v328
  v329.toNat
def k0_dev20 (d0 : Dev nD) : Nat :=
  let c0_i32_283 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v47 : BitVec 32 := Scalar.subi c1_i32_23 v2
  let c16_i32_282 : BitVec 32 := 16#32
  let v336 : BitVec 32 := Scalar.muli v47 c16_i32_282
  let v337 : BitVec 32 := Scalar.addi c0_i32_283 v336
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v44 : BitVec 32 := Scalar.addi v5 c1_i32_21
  let c2_i32_22 : BitVec 32 := 2#32
  let c2_i32_14 : BitVec 32 := 2#32
  let c0_i32_15 : BitVec 32 := 0#32
  let v32 : BitVec 1 := Scalar.cmpi .eq c2_i32_14 c0_i32_15
  let c1_i32_16 : BitVec 32 := 1#32
  let v33 : BitVec 32 := Scalar.select v32 c1_i32_16 c2_i32_14
  let v34 : BitVec 32 := Scalar.remsi v5 v33
  let c0_i32_18 : BitVec 32 := 0#32
  let v36 : BitVec 1 := Scalar.cmpi .slt v34 c0_i32_18
  let c0_i32_19 : BitVec 32 := 0#32
  let v37 : BitVec 1 := Scalar.cmpi .slt v33 c0_i32_19
  let v38 : BitVec 1 := Scalar.xori v36 v37
  let c0_i32_17 : BitVec 32 := 0#32
  let v35 : BitVec 1 := Scalar.cmpi .ne v34 c0_i32_17
  let v39 : BitVec 1 := Scalar.andi v38 v35
  let v40 : BitVec 32 := Scalar.addi v34 v33
  let v41 : BitVec 32 := Scalar.select v39 v40 v34
  let v45 : BitVec 32 := Scalar.muli c2_i32_22 v41
  let v46 : BitVec 32 := Scalar.subi v44 v45
  let c4_i32_284 : BitVec 32 := 4#32
  let v338 : BitVec 32 := Scalar.muli v46 c4_i32_284
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_285 : BitVec 32 := 1#32
  let v340 : BitVec 32 := Scalar.muli v8 c1_i32_285
  let v341 : BitVec 32 := Scalar.addi v339 v340
  v341.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x1024 : Shape := ⟨3, ![4, 2048, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Reference.lean ====
/-
# The reference on a rotation

For the permutation that turns the four blocks by `r`, the reference's result at block `z` is the argument's block `(z + r) mod 4`.
-/
module

public import proofs.«01_k».proof.Proof.Gen.ReferenceIdeal.Run

@[expose] public section

noncomputable section

namespace Cert.KRef

open Cert.ReferenceIdeal Cert.ReferenceIdeal.Gen Idealize.ShloMosaic Idealize.ShloMosaic.TcCoe Idealize.SL.Sem

variable {F : FTy → Type} [FloatOps F]

/-- The permutation that sends block `i` to place `i - r`. -/
def turn (r : Fin 4) : IVec S4 32 := fun i => BitVec.ofNat 32 (((i 0).val + (4 - r.val)) % 4)

/-- The gather's start indices as the reference computes them of a permutation. -/
def starts (p : IVec S4 32) : IVec S4x1 32 :=
  broadcastInDim S4x1 ![0] bcast_S4_S4x1_0
    (select (cmpi .slt ((Host.sort2 S4 0 comparator_i32_i32_d0 p (iotaInDim S4 32 0)).2) (broadcastInDim S4 ![] bcast_S_S4 (constantI S_ 32 0#32)))
      (addi ((Host.sort2 S4 0 comparator_i32_i32_d0 p (iotaInDim S4 32 0)).2) (broadcastInDim S4 ![] bcast_S_S4 (constantI S_ 32 4#32)))
      ((Host.sort2 S4 0 comparator_i32_i32_d0 p (iotaInDim S4 32 0)).2))

/-- Row `z` of the start indices. -/
def rowOf (z : Fin 4) : S4x1.Idx
  | ⟨0, _⟩ => z
  | ⟨1, _⟩ => ⟨0, Nat.one_pos⟩

theorem starts_turn : ∀ r z : Fin 4, (starts (turn r) (rowOf z)).toInt.toNat = (z.val + r.val) % 4 := by decide +kernel

/-- Where the reference's result at `j` is read in the argument. -/
def source (r : Fin 4) (j : S4x2048x1024.Idx) : S4x2048x1024.Idx
  | ⟨0, _⟩ => ⟨((j 0).val + r.val) % 4, Nat.mod_lt _ (by decide)⟩
  | ⟨1, _⟩ => j 1
  | ⟨2, _⟩ => j 2

/-- The reference's result. -/
def result (p : IVec S4 32) (x : S4x2048x1024.Idx → Elt F .f32) : S4x2048x1024.Idx → Elt F .f32 :=
  Host.gather gather_S4x2048x1024_S4x1_S4x2048x1024_12_0_n_n_0_1_120481024 x (starts p)

omit [FloatOps F] in
theorem result_turn (r : Fin 4) (x : S4x2048x1024.Idx → Elt F .f32) (j : S4x2048x1024.Idx) : result (turn r) x j = x (source r j) := by
  unfold result Host.gather
  refine congrArg x (funext fun a => Fin.ext ?_)
  fin_cases a
  · show min (starts (turn r) (rowOf (j 0))).toInt.toNat (4 - 1) + 0 + 0 = ((j 0).val + r.val) % 4
    refine (congrArg (fun n => min n (4 - 1) + 0 + 0) (starts_turn r (j 0))).trans ?_
    show min (((j 0).val + r.val) % 4) 3 + 0 + 0 = ((j 0).val + r.val) % 4
    omega
  · show 0 + 0 + (j 1).val = (j 1).val
    omega
  · show 0 + 0 + (j 2).val = (j 2).val
    omega

theorem run_result (m : (ℓ : Loc nD τ sig) → Buf (Elt F) ℓ) (ρ : Dev nD → PrngReg) :
    θ_run defs (onTc (τ := τ) (main (F := F))) ⟨m, fun _ => 0, ρ⟩ fun s => ∀ c : Dev nD,
      s.2.mem ((c.tc : Thread nD τ).loc main_v7) = result (m ((c.tc : Thread nD τ).loc main_arg1)) (m ((c.tc : Thread nD τ).loc main_arg0))
      ∧ s.2.mem ((c.tc : Thread nD τ).loc main_arg0) = m ((c.tc : Thread nD τ).loc main_arg0)
      ∧ s.2.mem ((c.tc : Thread nD τ).loc main_arg1) = m ((c.tc : Thread nD τ).loc main_arg1) :=
  Cert.ReferenceIdeal.Value.run m ρ

end Cert.KRef

end
-- ==== Proof.Pre.lean ====
/-
# The preconditions, read

Each of the four preconditions says that the permutation is one rotation.
-/
module

public import proofs.«01_k».proof.Pre_rot0_Kernel
public import proofs.«01_k».proof.Pre_rot0_ReferenceIdeal
public import proofs.«01_k».proof.Pre_rot1_Kernel
public import proofs.«01_k».proof.Pre_rot1_ReferenceIdeal
public import proofs.«01_k».proof.Pre_rot2_Kernel
public import proofs.«01_k».proof.Pre_rot2_ReferenceIdeal
public import proofs.«01_k».proof.Pre_rot3_Kernel
public import proofs.«01_k».proof.Pre_rot3_ReferenceIdeal
public import proofs.«01_k».proof.Proof.Reference

@[expose] public section

noncomputable section

namespace Cert.KPre

open Idealize.ShloMosaic Cert.KRef

instance rot0_Kernel : Cert.Pre_rot0_Kernel.Facts where
  slices_S4_S1_0 := by decide
  shapeCasts_S1_S_ := by decide
  slices_S4_S1_1 := by decide
  slices_S4_S1_2 := by decide
  slices_S4_S1_3 := by decide

instance rot0_ReferenceIdeal : Cert.Pre_rot0_ReferenceIdeal.Facts where
  slices_S4_S1_0 := by decide
  shapeCasts_S1_S_ := by decide
  slices_S4_S1_1 := by decide
  slices_S4_S1_2 := by decide
  slices_S4_S1_3 := by decide

instance rot1_Kernel : Cert.Pre_rot1_Kernel.Facts where
  slices_S4_S1_0 := by decide
  shapeCasts_S1_S_ := by decide
  slices_S4_S1_1 := by decide
  slices_S4_S1_2 := by decide
  slices_S4_S1_3 := by decide

instance rot1_ReferenceIdeal : Cert.Pre_rot1_ReferenceIdeal.Facts where
  slices_S4_S1_0 := by decide
  shapeCasts_S1_S_ := by decide
  slices_S4_S1_1 := by decide
  slices_S4_S1_2 := by decide
  slices_S4_S1_3 := by decide

instance rot2_Kernel : Cert.Pre_rot2_Kernel.Facts where
  slices_S4_S1_0 := by decide
  shapeCasts_S1_S_ := by decide
  slices_S4_S1_1 := by decide
  slices_S4_S1_2 := by decide
  slices_S4_S1_3 := by decide

instance rot2_ReferenceIdeal : Cert.Pre_rot2_ReferenceIdeal.Facts where
  slices_S4_S1_0 := by decide
  shapeCasts_S1_S_ := by decide
  slices_S4_S1_1 := by decide
  slices_S4_S1_2 := by decide
  slices_S4_S1_3 := by decide

instance rot3_Kernel : Cert.Pre_rot3_Kernel.Facts where
  slices_S4_S1_0 := by decide
  shapeCasts_S1_S_ := by decide
  slices_S4_S1_1 := by decide
  slices_S4_S1_2 := by decide
  slices_S4_S1_3 := by decide

instance rot3_ReferenceIdeal : Cert.Pre_rot3_ReferenceIdeal.Facts where
  slices_S4_S1_0 := by decide
  shapeCasts_S1_S_ := by decide
  slices_S4_S1_1 := by decide
  slices_S4_S1_2 := by decide
  slices_S4_S1_3 := by decide

abbrev A4 : Shape := ⟨1, ![4]⟩
abbrev A1 : Shape := ⟨1, ![1]⟩
abbrev A0 : Shape := ⟨0, ![]⟩

/-- Word `k` of a permutation. -/
def word (k : Fin 4) : A4.Idx
  | ⟨0, _⟩ => k

theorem word_surj (i : A4.Idx) : ∃ k, i = word k := ⟨i 0, funext fun a => by fin_cases a; rfl⟩

/-- A slice of one word, reshaped to no axis, is that word. -/
theorem pick (k : Fin 4) (h : A4.Slices ![k.val] A1) (h' : A1.ShapeCasts A0) (p : IVec A4 32) (i : A0.Idx) :
    shapeCast A0 (extractStridedSlice A1 ![k.val] p h) h' i = p (word k) := by
  show p _ = p _
  refine congrArg p (funext fun a => Fin.ext ?_)
  fin_cases a
  show k.val + _ = k.val
  exact Nat.add_eq_left.mpr (Nat.lt_one_iff.mp (Fin.isLt _))

/-- Four comparisons that all hold give four equations. -/
theorem words_of_andi (a b c d a' b' c' d' : BitVec 32)
    (h : IntOp.andi (IntOp.andi (IntOp.andi (IntOp.cmpi .eq a a') (IntOp.cmpi .eq b b')) (IntOp.cmpi .eq c c')) (IntOp.cmpi .eq d d') = 1#1) :
    a = a' ∧ b = b' ∧ c = c' ∧ d = d' := by
  have hand : ∀ p q u v : Bool, IntOp.andi (IntOp.andi (IntOp.andi (BitVec.ofBool p) (BitVec.ofBool q)) (BitVec.ofBool u)) (BitVec.ofBool v) = 1#1 →
      p = true ∧ q = true ∧ u = true ∧ v = true := by decide
  obtain ⟨h1, h2, h3, h4⟩ := hand _ _ _ _ h
  exact ⟨eq_of_beq h1, eq_of_beq h2, eq_of_beq h3, eq_of_beq h4⟩

/-- A permutation whose four words are those of the rotation is the rotation. -/
theorem eq_turn (r : Fin 4) (p : IVec A4 32) (h : ∀ k, p (word k) = turn r (word k)) : p = turn r := by
  funext i
  obtain ⟨k, rfl⟩ := word_surj i
  exact h k

variable {F : FTy → Type} [FloatOps F]

theorem turn0 (x : FVec F ⟨3, ![1, 2048, 1024]⟩ .f32) (p : IVec A4 32) (h : Cert.Pre_rot0_Kernel.fn (F := F) x p = fun _ => 1#1) : p = turn 0 := by
  have e := congrFun h (fun a => a.elim0)
  have e' : IntOp.andi (IntOp.andi (IntOp.andi (IntOp.cmpi .eq (p (word 0)) 0#32) (IntOp.cmpi .eq (p (word 1)) 1#32)) (IntOp.cmpi .eq (p (word 2)) 2#32))
      (IntOp.cmpi .eq (p (word 3)) 3#32) = 1#1 := by
    rw [← pick 0 (by decide) (by decide) p (fun a => a.elim0), ← pick 1 (by decide) (by decide) p (fun a => a.elim0),
      ← pick 2 (by decide) (by decide) p (fun a => a.elim0), ← pick 3 (by decide) (by decide) p (fun a => a.elim0)]
    exact e
  obtain ⟨h0, h1, h2, h3⟩ := words_of_andi _ _ _ _ _ _ _ _ e'
  refine eq_turn 0 p fun k => ?_
  fin_cases k
  · exact h0
  · exact h1
  · exact h2
  · exact h3

theorem turn1 (x : FVec F ⟨3, ![1, 2048, 1024]⟩ .f32) (p : IVec A4 32) (h : Cert.Pre_rot1_Kernel.fn (F := F) x p = fun _ => 1#1) : p = turn 1 := by
  have e := congrFun h (fun a => a.elim0)
  have e' : IntOp.andi (IntOp.andi (IntOp.andi (IntOp.cmpi .eq (p (word 0)) 3#32) (IntOp.cmpi .eq (p (word 1)) 0#32)) (IntOp.cmpi .eq (p (word 2)) 1#32))
      (IntOp.cmpi .eq (p (word 3)) 2#32) = 1#1 := by
    rw [← pick 0 (by decide) (by decide) p (fun a => a.elim0), ← pick 1 (by decide) (by decide) p (fun a => a.elim0),
      ← pick 2 (by decide) (by decide) p (fun a => a.elim0), ← pick 3 (by decide) (by decide) p (fun a => a.elim0)]
    exact e
  obtain ⟨h0, h1, h2, h3⟩ := words_of_andi _ _ _ _ _ _ _ _ e'
  refine eq_turn 1 p fun k => ?_
  fin_cases k
  · exact h0
  · exact h1
  · exact h2
  · exact h3

theorem turn2 (x : FVec F ⟨3, ![1, 2048, 1024]⟩ .f32) (p : IVec A4 32) (h : Cert.Pre_rot2_Kernel.fn (F := F) x p = fun _ => 1#1) : p = turn 2 := by
  have e := congrFun h (fun a => a.elim0)
  have e' : IntOp.andi (IntOp.andi (IntOp.andi (IntOp.cmpi .eq (p (word 0)) 2#32) (IntOp.cmpi .eq (p (word 1)) 3#32)) (IntOp.cmpi .eq (p (word 2)) 0#32))
      (IntOp.cmpi .eq (p (word 3)) 1#32) = 1#1 := by
    rw [← pick 0 (by decide) (by decide) p (fun a => a.elim0), ← pick 1 (by decide) (by decide) p (fun a => a.elim0),
      ← pick 2 (by decide) (by decide) p (fun a => a.elim0), ← pick 3 (by decide) (by decide) p (fun a => a.elim0)]
    exact e
  obtain ⟨h0, h1, h2, h3⟩ := words_of_andi _ _ _ _ _ _ _ _ e'
  refine eq_turn 2 p fun k => ?_
  fin_cases k
  · exact h0
  · exact h1
  · exact h2
  · exact h3

theorem turn3 (x : FVec F ⟨3, ![1, 2048, 1024]⟩ .f32) (p : IVec A4 32) (h : Cert.Pre_rot3_Kernel.fn (F := F) x p = fun _ => 1#1) : p = turn 3 := by
  have e := congrFun h (fun a => a.elim0)
  have e' : IntOp.andi (IntOp.andi (IntOp.andi (IntOp.cmpi .eq (p (word 0)) 1#32) (IntOp.cmpi .eq (p (word 1)) 2#32)) (IntOp.cmpi .eq (p (word 2)) 3#32))
      (IntOp.cmpi .eq (p (word 3)) 0#32) = 1#1 := by
    rw [← pick 0 (by decide) (by decide) p (fun a => a.elim0), ← pick 1 (by decide) (by decide) p (fun a => a.elim0),
      ← pick 2 (by decide) (by decide) p (fun a => a.elim0), ← pick 3 (by decide) (by decide) p (fun a => a.elim0)]
    exact e
  obtain ⟨h0, h1, h2, h3⟩ := words_of_andi _ _ _ _ _ _ _ _ e'
  refine eq_turn 3 p fun k => ?_
  fin_cases k
  · exact h0
  · exact h1
  · exact h2
  · exact h3

end Cert.KPre

end
-- ==== Proof.Mesh.lean ====
/-
# The devices a device exchanges rows with

The mesh is x = 2, y = 4, z = 4 and device `c` sits at `(c / 16, c / 4 % 4, c % 4)`. A device's copies go to four
peers, numbered by a kind `k : Fin 4`: kind 0 is the device `r` places down the z ring, kinds 1, 2 and 3 are the y
partner, the x partner and the diagonal partner. `tgt r k c` is where `c`'s kind-`k` copies land, `org r k c` whose
kind-`k` copies land on `c`. The printed `device_id` chains, the row offsets and the side condition on the word read
from the permutation are computed here once, over the 32 devices and the four rotations.
-/
module

public import proofs.«01_k».proof.Proof.Gen.KernelIdeal

@[expose] public section

noncomputable section

namespace Cert.KProof

open Cert.KernelIdeal Cert.KernelIdeal.Gen
open Idealize.ShloMosaic

/-- The word at index 0 of the permutation that rotates by `r`. -/
abbrev w0 (r : Fin 4) : BitVec 32 := BitVec.ofNat 32 ((4 - r.val) % 4)

set_option backward.proofsInPublic true in
/-- The device whose number is `n` modulo the mesh's size. -/
def dev (n : ℕ) : Dev nD := ⟨n % 32, Nat.mod_lt _ (by decide)⟩

/-- The bit a partner of kind `k` differs in. -/
def flip (k : Fin 4) : ℕ := 4 * (k.val % 2) + 16 * (k.val / 2)

/-- Where device `c`'s kind-`k` copies land. -/
def tgt (r k : Fin 4) (c : Dev nD) : Dev nD :=
  if k = 0 then dev (c.val / 4 * 4 + (c.val % 4 + (4 - r.val)) % 4) else dev (c.val ^^^ flip k)
/-- Whose kind-`k` copies land on device `c`. -/
def org (r k : Fin 4) (c : Dev nD) : Dev nD :=
  if k = 0 then dev (c.val / 4 * 4 + (c.val % 4 + r.val) % 4) else dev (c.val ^^^ flip k)

theorem org_tgt (r k : Fin 4) (c : Dev nD) : org r k (tgt r k c) = c := by
  revert r k c; decide +kernel
theorem tgt_org (r k : Fin 4) (c : Dev nD) : tgt r k (org r k c) = c := by
  revert r k c; decide +kernel

/-- Origin and target of a kind as a permutation of the devices. -/
def route (r k : Fin 4) : Dev nD ≃ Dev nD := ⟨tgt r k, org r k, org_tgt r k, tgt_org r k⟩

/-- The quarter of the rows a device brings from its z peer and relays. -/
def quart (c : Dev nD) : ℕ := 2 * (c.val / 16) + c.val / 4 % 2

theorem off_eq : ∀ (c : Dev nD) (j : Fin 4), k0_off1 c (BitVec.ofNat 32 (128 * j.val)) = ![0, 512 * quart c + 128 * j.val, 0] := by
  decide +kernel

theorem quart_lt : ∀ c : Dev nD, quart c < 4 := by decide +kernel
/-- The z peer has this device's quarter. -/
theorem quart_org0 : ∀ (r : Fin 4) (c : Dev nD), quart (org r 0 c) = quart c := by decide +kernel
/-- The four devices that write into a device carry the four quarters. -/
theorem quart_org_inj : ∀ (r : Fin 4) (c : Dev nD) (k k' : Fin 4), quart (org r k c) = quart (org r k' c) → k = k' := by decide +kernel
theorem quart_org_surj : ∀ (r : Fin 4) (c : Dev nD) (q : Fin 4), ∃ k, quart (org r k c) = q.val := by decide +kernel

/-! ## The printed chains -/

theorem chk_ok : ∀ (r : Fin 4) (c : Dev nD), k0_chk1 c (w0 r) := by decide +kernel

theorem dev1_eq : ∀ (r : Fin 4) (c : Dev nD), k0_dev1 c (w0 r) = (org r 0 c).val := by decide +kernel
theorem dev2_eq : ∀ (r : Fin 4) (c : Dev nD), k0_dev2 c = (org r 1 c).val := by decide +kernel
theorem dev3_eq : ∀ (r : Fin 4) (c : Dev nD), k0_dev3 c = (org r 2 c).val := by decide +kernel
theorem dev4_eq : ∀ (r : Fin 4) (c : Dev nD), k0_dev4 c = (org r 3 c).val := by decide +kernel
theorem dev5_eq : ∀ (r : Fin 4) (c : Dev nD), k0_dev5 c (w0 r) = (tgt r 0 c).val := by decide +kernel
theorem dev6_eq : ∀ (r : Fin 4) (c : Dev nD), k0_dev6 c (w0 r) = (tgt r 0 c).val := by decide +kernel
theorem dev7_eq : ∀ (r : Fin 4) (c : Dev nD), k0_dev7 c (w0 r) = (tgt r 0 c).val := by decide +kernel
theorem dev8_eq : ∀ (r : Fin 4) (c : Dev nD), k0_dev8 c (w0 r) = (tgt r 0 c).val := by decide +kernel
theorem dev9_eq : ∀ (r : Fin 4) (c : Dev nD), k0_dev9 c = (tgt r 1 c).val := by decide +kernel
theorem dev10_eq : ∀ (r : Fin 4) (c : Dev nD), k0_dev10 c = (tgt r 2 c).val := by decide +kernel
theorem dev11_eq : ∀ (r : Fin 4) (c : Dev nD), k0_dev11 c = (tgt r 3 c).val := by decide +kernel
theorem dev12_eq : ∀ (r : Fin 4) (c : Dev nD), k0_dev12 c = (tgt r 1 c).val := by decide +kernel
theorem dev13_eq : ∀ (r : Fin 4) (c : Dev nD), k0_dev13 c = (tgt r 2 c).val := by decide +kernel
theorem dev14_eq : ∀ (r : Fin 4) (c : Dev nD), k0_dev14 c = (tgt r 3 c).val := by decide +kernel
theorem dev15_eq : ∀ (r : Fin 4) (c : Dev nD), k0_dev15 c = (tgt r 1 c).val := by decide +kernel
theorem dev16_eq : ∀ (r : Fin 4) (c : Dev nD), k0_dev16 c = (tgt r 2 c).val := by decide +kernel
theorem dev17_eq : ∀ (r : Fin 4) (c : Dev nD), k0_dev17 c = (tgt r 3 c).val := by decide +kernel
theorem dev18_eq : ∀ (r : Fin 4) (c : Dev nD), k0_dev18 c = (tgt r 1 c).val := by decide +kernel
theorem dev19_eq : ∀ (r : Fin 4) (c : Dev nD), k0_dev19 c = (tgt r 2 c).val := by decide +kernel
theorem dev20_eq : ∀ (r : Fin 4) (c : Dev nD), k0_dev20 c = (tgt r 3 c).val := by decide +kernel

end Cert.KProof

end
-- ==== Proof.Sched.lean ====
/-
# The cells of the kernel and what each of them hands over

Every device has one barrier cell and 32 copy cells, a copy cell named by `(k, s, i)`: the kind `k` of its copy, whether it
is the sending (`false`) or the receiving (`true`) side, and the chunk `i` of 128 rows. Each has one round.

* A device's barrier cell is raised once by each of the four devices its own copies go to, and each hands over the rows of its
  result buffer that the copies will fill.
* A sending cell gives the rows of the source back: of the input for kind 0, of the result buffer for the relays (three relays
  read the same rows, each under a share of its own).
* A receiving cell gives the rows of the result buffer, filled with the rows of the device the data started from.
-/
module

public import proofs.«01_k».proof.Proof.Mesh
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg) (r : Fin 4)

/-- The memory at launch: arbitrary contents, every semaphore at zero, arbitrary generator registers. -/
def s₀ : MemSt nD τ sig (Elt F) := ⟨m, fun _ => 0, ρ⟩

/-! ## Buffers and rows -/

abbrev xM : Memref sig .tc .vmem S1x2048x1024 .f32 := Memref.whole cc0_stg0_0
abbrev oM : Memref sig .tc .vmem S1x2048x1024 .f32 := Memref.whole cc0_stg2_0
abbrev pM : Memref sig .tc .smem S4 .i32 := Memref.whole cc0_stg1_0

/-- Chunk `i` of device `d`'s quarter, as a rectangle of rows. -/
abbrev rows (d : Dev nD) (i : Fin 4) : Rect S1x2048x1024 :=
  Rect.unit (s := S1x2048x1024) (k0_off1 d (BitVec.ofNat 32 (128 * i.val))) S1x128x1024.size (k0_off1_inb d i)
abbrev xV (d : Dev nD) (i : Fin 4) : Memref sig .tc .vmem S1x128x1024 .f32 := xM.slice (rows d i) (fun _ => rfl)
abbrev oV (d : Dev nD) (i : Fin 4) : Memref sig .tc .vmem S1x128x1024 .f32 := oM.slice (rows d i) (fun _ => rfl)

abbrev Cont : Type := S1x2048x1024.Idx → Elt F .f32

/-- Device `c`'s input block, staged. -/
def xstg (c : Dev nD) : S1x2048x1024.Idx → Elt F .f32 :=
  (win0_0.blk (0 : Fin 1)).view.read (Elt F) ((s₀ m ρ).mem ((c : Thread nD τ).loc main_arg0))
/-- The permutation as staged on device `c`. -/
def pstg (c : Dev nD) : S4.Idx → Elt F .i32 :=
  (win0_1.blk (0 : Fin 1)).view.read (Elt F) ((s₀ m ρ).mem ((c : Thread nD τ).loc main_arg1))

/-- The device whose input rows a kind-`k` copy into `c` carries. -/
def root (k : Fin 4) (c : Dev nD) : Dev nD := if k = 0 then org r 0 c else org r 0 (org r k c)

/-- Rows of `d`'s quarter, chunk `i`, in device `c`'s input buffer. -/
def ptsX (c d : Dev nD) (i : Fin 4) (q : PosShare TreeShare) (f : S1x2048x1024.Idx → Elt F .f32) : sProp 𝕄 :=
  (xV d i).view.loc (c : Thread nD τ) ↦[(xV d i).view.set]{q} f
/-- The same rows in device `c`'s result buffer. -/
def ptsO (c d : Dev nD) (i : Fin 4) (q : PosShare TreeShare) (f : S1x2048x1024.Idx → Elt F .f32) : sProp 𝕄 :=
  (oV d i).view.loc (c : Thread nD τ) ↦[(oV d i).view.set]{q} f

omit [FloatOps F] in
instance ptsX_storable (c d : Dev nD) (i) (q) (f) : BI.Storable (upEmb : UEmb _ 𝕄) (ptsX (F := F) c d i q f) := by unfold ptsX; infer_instance
omit [FloatOps F] in
instance ptsO_storable (c d : Dev nD) (i) (q) (f) : BI.Storable (upEmb : UEmb _ 𝕄) (ptsO (F := F) c d i q f) := by unfold ptsO; infer_instance

theorem mem_rows (d : Dev nD) (i : Fin 4) (x : S1x2048x1024.Idx) : x ∈ (rows d i).set ↔ (x 1).val / 128 = 4 * quart d + i.val := by
  rw [Rect.mem_set_unit]
  have h := off_eq d i
  have hi := i.isLt
  constructor
  · intro hx
    have h1 := hx 1
    rw [h] at h1
    have h2 : 512 * quart d + 128 * i.val ≤ (x 1).val ∧ (x 1).val < 512 * quart d + 128 * i.val + 128 := h1
    omega
  · intro hx a
    rw [h]
    fin_cases a
    · exact ⟨Nat.zero_le _, (x 0).isLt⟩
    · show 512 * quart d + 128 * i.val ≤ (x 1).val ∧ (x 1).val < 512 * quart d + 128 * i.val + 128
      omega
    · have h2 : (x 2).val < 1024 := (x 2).isLt
      exact ⟨Nat.zero_le _, by show (x 2).val < 0 + 1024; omega⟩

theorem xset (d : Dev nD) (i : Fin 4) : (xV d i).view.set = (rows d i).set := View.set_slice_whole _ _
theorem oset (d : Dev nD) (i : Fin 4) : (oV d i).view.set = (rows d i).set := View.set_slice_whole _ _

theorem rows_congr {d d' : Dev nD} (h : quart d = quart d') (i : Fin 4) : (rows d i).set = (rows d' i).set := by
  ext x; rw [mem_rows, mem_rows, h]

omit [FloatOps F] in
theorem ptsO_congr (c : Dev nD) {d d' : Dev nD} (h : quart d = quart d') (i : Fin 4) (q) (f : S1x2048x1024.Idx → Elt F .f32) :
    ptsO c d i q f = ptsO c d' i q f := by
  unfold ptsO; rw [oset, oset]
  exact congrArg (fun S : Finset S1x2048x1024.Idx => (((c : Thread nD τ).loc cc0_stg2_0) ↦[S]{q} f : sProp 𝕄)) (rows_congr h i)
omit [FloatOps F] in
theorem ptsX_congr (c : Dev nD) {d d' : Dev nD} (h : quart d = quart d') (i : Fin 4) (q) (f : S1x2048x1024.Idx → Elt F .f32) :
    ptsX c d i q f = ptsX c d' i q f := by
  unfold ptsX; rw [xset, xset]
  exact congrArg (fun S : Finset S1x2048x1024.Idx => (((c : Thread nD τ).loc cc0_stg0_0) ↦[S]{q} f : sProp 𝕄)) (rows_congr h i)

/-- The share of the relayed rows each relay reads them under. -/
def shr (k : Fin 4) : PosShare TreeShare :=
  if k = 0 then fullShare else if k = 1 then fullShare.left else if k = 2 then fullShare.right.left else fullShare.right.right

/-- The 16 blocks of a device's result buffer, named by who fills them. -/
abbrev BI16 : Type := Fin 4 × Fin 4
def blk (c : Dev nD) (b : BI16) : Finset S1x2048x1024.Idx := (rows (org r b.1 c) b.2).set

theorem blk_disj (c : Dev nD) (b b' : BI16) (h : b ≠ b') : Disjoint (blk r c b) (blk r c b') := by
  rw [Finset.disjoint_left]
  intro x hx hx'
  have h1 := (mem_rows _ _ _).mp hx
  have h2 := (mem_rows _ _ _).mp hx'
  have hb := b.2.isLt; have hb' := b'.2.isLt
  have hq : quart (org r b.1 c) = quart (org r b'.1 c) := by omega
  have hk := quart_org_inj r c _ _ hq
  exact h (Prod.ext hk (Fin.ext (by omega)))

theorem blk_mem (c : Dev nD) (x : S1x2048x1024.Idx) : ∃ b, x ∈ blk r c b := by
  have hx : (x 1).val < 2048 := (x 1).isLt
  obtain ⟨k, hk⟩ := quart_org_surj r c ⟨(x 1).val / 512, by omega⟩
  exact ⟨(k, ⟨(x 1).val / 128 % 4, Nat.mod_lt _ (by decide)⟩), (mem_rows _ _ _).mpr (by rw [hk]; show _ = 4 * ((x 1).val / 512) + (x 1).val / 128 % 4; omega)⟩

theorem blk_cover (c : Dev nD) : Finset.univ.biUnion (blk r c) = Finset.univ := by
  ext x
  simp only [Finset.mem_biUnion, Finset.mem_univ, true_and, iff_true]
  exact blk_mem r c x

/-- Who fills the block an element lies in. -/
def kindOf (c : Dev nD) (x : S1x2048x1024.Idx) : Fin 4 := (blk_mem r c x).choose.1

theorem kindOf_eq (c : Dev nD) (b : BI16) (x : S1x2048x1024.Idx) (h : x ∈ blk r c b) : kindOf r c x = b.1 := by
  by_contra hn
  exact Finset.disjoint_left.mp (blk_disj r c _ _ (fun e => hn (congrArg Prod.fst e))) (blk_mem r c x).choose_spec h

/-- Device `c`'s result: each element from the input of the device its block's data started from. -/
def outAt (c : Dev nD) : S1x2048x1024.Idx → Elt F .f32 := fun x => xstg m ρ (root r (kindOf r c x) c) x

omit [FloatOps F] in
theorem outBlk_eq (c : Dev nD) : (((c : Thread nD τ).loc cc0_stg2_0) ↦{fullShare} outAt m ρ r c : sProp 𝕄)
    = bigSep Finset.univ fun b : BI16 => ptsO c (org r b.1 c) b.2 fullShare (xstg m ρ (root r b.1 c)) := by
  rw [Idealize.ShloMosaic.Ring.pointsTo_blocks (ℓ := (c : Thread nD τ).loc cc0_stg2_0) (blk r c) (blk_disj r c) (blk_cover r c)]
  refine bigSep_congr fun b _ => ?_
  unfold ptsO; rw [oset]
  exact pointsTo_congr fun x hx => by unfold outAt; rw [kindOf_eq r c b x hx]

omit [FloatOps F] in
theorem outSplit (c : Dev nD) (f : S1x2048x1024.Idx → Elt F .f32) : (((c : Thread nD τ).loc cc0_stg2_0) ↦{fullShare} f : sProp 𝕄)
    = bigSep Finset.univ fun b : BI16 => ptsO c (org r b.1 c) b.2 fullShare f := by
  rw [Idealize.ShloMosaic.Ring.pointsTo_blocks (ℓ := (c : Thread nD τ).loc cc0_stg2_0) (blk r c) (blk_disj r c) (blk_cover r c)]
  refine bigSep_congr fun b _ => ?_
  unfold ptsO; rw [oset]; rfl

omit [FloatOps F] in
theorem xSplit (c : Dev nD) (f : S1x2048x1024.Idx → Elt F .f32) : (((c : Thread nD τ).loc cc0_stg0_0) ↦{fullShare} f : sProp 𝕄)
    = bigSep Finset.univ fun b : BI16 => ptsX c (org r b.1 c) b.2 fullShare f := by
  rw [Idealize.ShloMosaic.Ring.pointsTo_blocks (ℓ := (c : Thread nD τ).loc cc0_stg0_0) (blk r c) (blk_disj r c) (blk_cover r c)]
  refine bigSep_congr fun b _ => ?_
  unfold ptsX; rw [xset]; rfl

/-! ## Cells -/

/-- A copy cell's name: kind, side (`true` the receiving one), chunk. -/
abbrev CI : Type := Fin 4 × Bool × Fin 4

set_option backward.proofsInPublic true in
def dsem (i : CI) : DmaSem sig := ⟨3 + 4 * (2 * i.1.val + i.2.1.toNat) + i.2.2.val, by
  have h1 := i.1.isLt; have h2 := i.2.2.isLt; have h3 := Bool.toNat_le i.2.1
  show _ < 35; omega⟩
/-- The name a semaphore number stands for. -/
def decode (n : ℕ) : CI := (⟨(n - 3) / 8 % 4, Nat.mod_lt _ (by decide)⟩, (n - 3) / 4 % 2 == 1, ⟨(n - 3) % 4, Nat.mod_lt _ (by decide)⟩)

theorem decode_dsem : ∀ i : CI, decode (dsem i).val = i := by decide +kernel
theorem three_le_dsem (i : CI) : 3 ≤ (dsem i).val := by unfold dsem; show 3 ≤ 3 + _ + _; omega
theorem dsem_inj : Function.Injective dsem := fun a b h => by rw [← decode_dsem a, h, decode_dsem]

abbrev barS : Sem sig := (SemArray.scalar (sig.barrier 0 rfl) : Sems sig S_).sem
abbrev barCell (c : Dev nD) : GSem nD τ sig := ((c : Thread nD τ), .reg barS)
abbrev dCell (c : Dev nD) (i : CI) : GSem nD τ sig := ((c : Thread nD τ), .dma (dsem i))
abbrev osem (i : CI) : SemLoc sig := .dma (dsem i)

/-- The bytes a chunk's copy is counted by. -/
abbrev N : ℕ := (oV 0 0).view.dmaCredit
theorem N_pos : 0 < N := View.dmaCredit_pos _ (by decide)

theorem credO (d : Dev nD) (i : Fin 4) : (oV d i).view.dmaCredit = N := rfl
theorem credX (d : Dev nD) (i : Fin 4) : (xV d i).view.dmaCredit = N := rfl

/-! ## The schedule -/

/-- What the kind-`k` peer hands device `c` at its barrier: its rows of `c`'s quarter. -/
def barPay (c : Dev nD) (k : Fin 4) : sProp 𝕄 :=
  bigSep Finset.univ fun i : Fin 4 => iprop(∃ f, ptsO (tgt r k c) c i fullShare f)

/-- The rows a kind-`k` copy of chunk `i` reads on device `c`, under its share. -/
def srcPts (c : Dev nD) (k i : Fin 4) : sProp 𝕄 :=
  if k = 0 then ptsX c c i fullShare (xstg m ρ c) else ptsO c c i (shr k) (xstg m ρ (org r 0 c))

/-- The rows a kind-`k` copy fills on device `c`. -/
def dstPts (c : Dev nD) (k i : Fin 4) : sProp 𝕄 := ptsO c (org r k c) i fullShare (xstg m ρ (root r k c))

def copyPay (c : Dev nD) (i : CI) : sProp 𝕄 := if i.2.1 then dstPts m ρ r c i.1 i.2.2 else srcPts m ρ r c i.1 i.2.2

def rd : Rounds.Schedule (GSem nD τ sig) (Fin 4) 𝕄 where
  duties g n := if n = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with | .reg _ => barPay r g.1.1 d | .dma q => copyPay m ρ r g.1.1 (decode q.val)
  amount_pos g _ _ _ := by
    rcases g with ⟨c, s | q⟩
    · exact Nat.one_pos
    · exact N_pos

omit [FloatOps F] in
instance barPay_storable (c k) : BI.Storable (upEmb : UEmb _ 𝕄) (barPay (F := F) r c k) := by
  unfold barPay; infer_instance
omit [FloatOps F] in
instance srcPts_storable (c k i) : BI.Storable (upEmb : UEmb _ 𝕄) (srcPts (F := F) m ρ r c k i) := by
  unfold srcPts; split <;> infer_instance
omit [FloatOps F] in
instance dstPts_storable (c k i) : BI.Storable (upEmb : UEmb _ 𝕄) (dstPts (F := F) m ρ r c k i) := by
  unfold dstPts; infer_instance
omit [FloatOps F] in
instance copyPay_storable (c i) : BI.Storable (upEmb : UEmb _ 𝕄) (copyPay (F := F) m ρ r c i) := by
  unfold copyPay; split <;> infer_instance
omit [FloatOps F] in
instance rd_storable (g : GSem nD τ sig) (n : ℕ) (d : Fin 4) : BI.Storable (upEmb : UEmb _ 𝕄) ((rd (F := F) m ρ r).payload g n d) := by
  rcases g with ⟨c, s | q⟩
  · show BI.Storable upEmb (barPay r c.1 d); infer_instance
  · show BI.Storable upEmb (copyPay m ρ r c.1 (decode q.val)); infer_instance

omit [FloatOps F] in
theorem duties_bar (c : Dev nD) : (rd (F := F) m ρ r).duties (barCell c) 0 = Finset.univ := by
  dsimp only [rd]; exact if_pos ⟨rfl, rfl⟩
omit [FloatOps F] in
theorem duties_copy (c : Dev nD) (i : CI) : (rd (F := F) m ρ r).duties (dCell c i) 0 = {0} := by
  dsimp only [rd]; rw [if_pos ⟨rfl, rfl⟩]; exact if_pos (three_le_dsem i)
omit [FloatOps F] in
theorem duties_later (g : GSem nD τ sig) : ∀ n, 1 ≤ n → (rd (F := F) m ρ r).duties g n = ∅ :=
  fun n hn => by dsimp only [rd]; exact if_neg fun h => by omega

omit [FloatOps F] in
theorem expect_bar (c : Dev nD) : (rd (F := F) m ρ r).expect (barCell c) 0 = 4 := by
  unfold Schedule.expect Schedule.amountOf
  rw [duties_bar]; rfl
omit [FloatOps F] in
theorem expect_copy (c : Dev nD) (i : CI) : (rd (F := F) m ρ r).expect (dCell c i) 0 = N := by
  unfold Schedule.expect Schedule.amountOf; rw [duties_copy, Finset.sum_singleton]; rfl

omit [FloatOps F] in
theorem payload_copy (c : Dev nD) (i : CI) (d : Fin 4) : (rd (F := F) m ρ r).payload (dCell c i) 0 d = copyPay m ρ r c i := by
  show copyPay m ρ r c (decode (dsem i).val) = _; rw [decode_dsem]
omit [FloatOps F] in
theorem rest_copy (c : Dev nD) (i : CI) :
    bigSep ((rd (F := F) m ρ r).duties (dCell c i) 0 \ ∅) (fun d => (rd (F := F) m ρ r).payload (dCell c i) 0 d) = copyPay m ρ r c i := by
  rw [Finset.sdiff_empty, duties_copy, bigSep_singleton, payload_copy]
omit [FloatOps F] in
theorem rest_bar (c : Dev nD) :
    bigSep ((rd (F := F) m ρ r).duties (barCell c) 0 \ ∅) (fun d => (rd (F := F) m ρ r).payload (barCell c) 0 d)
      = bigSep Finset.univ fun k : Fin 4 => barPay r c k := by
  rw [Finset.sdiff_empty, duties_bar]; rfl

/-! ## What a device owes, and the order of the waits -/

/-- A payment the kernel makes: a barrier unit to the kind-`k` peer, or a copy's credit. -/
abbrev Due : Type := Fin 4 ⊕ BI16

def dueTally (c : Dev nD) : Due → CellTallies nD τ sig Unit
  | .inl k => tallyAt (barCell (org r k c)) () 1
  | .inr b => tallyAt (dCell (tgt r b.1 c) (b.1, true, b.2)) () N
/-- The cell it is paid to. -/
def dueCell (c : Dev nD) : Due → GSem nD τ sig
  | .inl k => barCell (org r k c)
  | .inr b => dCell (tgt r b.1 c) (b.1, true, b.2)

def owedL (c : Dev nD) : List Due → CellTallies nD τ sig Unit
  | [] => 0
  | x :: l => owedL c l + dueTally r c x

/-- The relays of the chunks in `l`. -/
abbrev relays : List Due :=
  [.inr (1, 0), .inr (2, 0), .inr (3, 0), .inr (1, 1), .inr (2, 1), .inr (3, 1), .inr (1, 2), .inr (2, 2), .inr (3, 2), .inr (1, 3), .inr (2, 3), .inr (3, 3)]
abbrev copies : List Due := .inr (0, 0) :: .inr (0, 1) :: .inr (0, 2) :: .inr (0, 3) :: relays
/-- Everything the kernel pays, in program order. -/
abbrev dues : List Due := .inl 0 :: .inl 1 :: .inl 2 :: .inl 3 :: copies

def L (g : GSem nD τ sig) : Finset Unit := if g.1.2 = .tc then {()} else ∅
theorem L_of_ne (g : GSem nD τ sig) (h : g.1.2 ≠ .tc) : L g = ∅ := if_neg h

/-- Staging and sending cells lowest, then barrier cells, then the receiving cells of kind 0, then those of the relays. -/
def lvC (i : CI) : ℕ := if i.2.1 then (if i.1 = 0 then 2 else 3) else 0
def lv (g : GSem nD τ sig) (_ : Unit) : ℕ := match g.2 with
  | .reg _ => 1
  | .dma q => if 3 ≤ q.val then lvC (decode q.val) else 0
def lvDue : Due → ℕ
  | .inl _ => 1
  | .inr b => if b.1 = 0 then 2 else 3

theorem lv_copy (c : Dev nD) (i : CI) : lv (dCell c i) () = lvC i := by
  show (if 3 ≤ (dsem i).val then lvC (decode (dsem i).val) else 0) = _
  rw [if_pos (three_le_dsem i), decode_dsem]

theorem lv_due (c : Dev nD) (x : Due) : lv (dueCell r c x) () = lvDue x := by
  rcases x with k | b
  · rfl
  · exact lv_copy _ _

theorem dueCell_tc (c : Dev nD) (x : Due) : (dueCell r c x).1.2 = .tc := by rcases x with k | b <;> rfl

theorem owedL_pos (c : Dev nD) (l : List Due) {g : GSem nD τ sig} {u : Unit} (h : 0 < owedL r c l g u) : ∃ x ∈ l, g = dueCell r c x := by
  induction l with
  | nil => exact absurd h (by show ¬ (0 : ℕ) < 0; decide)
  | cons x l ih =>
    unfold owedL at h
    rw [Pi.add_apply, Finsupp.add_apply] at h
    by_cases hx : 0 < dueTally r c x g u
    · refine ⟨x, List.mem_cons_self, ?_⟩
      rcases x with k | b
      · exact (Pipeline.tallyAt_pos hx).1
      · exact (Pipeline.tallyAt_pos hx).1
    · obtain ⟨y, hy, e⟩ := ih (by omega)
      exact ⟨y, List.mem_cons_of_mem _ hy, e⟩

omit [FloatOps F] in
/-- A wait on a cell whose level lies below every payment still owed. -/
theorem mayWait (c : Dev nD) (sm : SemLoc sig) (l : List Due) (n : ℕ) (hn : lv ((c : Thread nD τ), sm) () ≤ n) (hl : ∀ x ∈ l, n < lvDue x) :
    (levAts L lv : sProp 𝕄) ⊢ MayWait (c : Thread nD τ) sm () (owedL r c l) :=
  MayOwe.of_cut (L := L) (lev := lv) n
    (fun p hp => by rw [Finset.mem_singleton.mp hp]; exact Finset.mem_singleton_self _)
    (fun g u hg => by
      obtain ⟨x, -, rfl⟩ := owedL_pos r c l hg
      unfold L; rw [if_pos (dueCell_tc r c x)]; exact Finset.mem_singleton_self _)
    (fun p hp => by rw [Finset.mem_singleton.mp hp]; exact hn)
    (fun g u hg => by
      obtain ⟨x, hx, rfl⟩ := owedL_pos r c l hg
      rw [lv_due]; exact hl x hx)

end Cert.KProof

end
-- ==== Proof.Steps.lean ====
/-
# One rule per step of the kernel

A pending copy is named by its kind and chunk `b`. What device `c` holds for it moves through four stages: `ready` (the tokens
and positions of its own cells, and the token of the peer's receiving cell), `sent`, `over` (both waits done). Each lemma
takes one effect of the kernel, or the two waits of one copy, from one stage to the next.
-/
module

public import proofs.«01_k».proof.Proof.Sched
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg) (r : Fin 4)

/-- All cells of a device: the barrier cell, then the copy cells. -/
abbrev KI : Type := Unit ⊕ CI
abbrev csem : KI → SemLoc sig
  | .inl _ => .reg barS
  | .inr i => .dma (dsem i)
abbrev kcell (ck : Dev nD × KI) : GSem nD τ sig := ((ck.1 : Thread nD τ), csem ck.2)

def records (K : Dev nD × KI → ℕ) : sProp 𝕄 :=
  iprop((bigSep Finset.univ fun ck : Dev nD × KI => cellInv ER (rd m ρ r) (K ck) (kcell ck))
    ∗ bigSep Finset.univ fun ck : Dev nD × KI => reached ER (kcell ck) 0)

instance records_persistent (K) : BI.Persistent (records (F := F) m ρ r K) := by unfold records; infer_instance

/-- What every step may read and none uses up: the cells' invariants and the order of the waits. -/
def ctx (K : Dev nD × KI → ℕ) : sProp 𝕄 := iprop(records m ρ r K ∗ (levAts L lv : sProp 𝕄))
instance ctx_persistent (K) : BI.Persistent (ctx (F := F) m ρ r K) := by unfold ctx; infer_instance

variable (K : Dev nD × KI → ℕ)

omit [FloatOps F] in
theorem inv_at (ck : Dev nD × KI) :
    (bigSep Finset.univ fun ck : Dev nD × KI => (cellInv ER (rd m ρ r) (K ck) (kcell ck) : sProp 𝕄)) ⊢ cellInv ER (rd m ρ r) (K ck) (kcell ck) :=
  bigSep_elim (Finset.mem_univ ck)
omit [FloatOps F] in
theorem reached_at (ck : Dev nD × KI) :
    (bigSep Finset.univ fun ck : Dev nD × KI => (reached ER (kcell ck) 0 : sProp 𝕄)) ⊢ reached ER (kcell ck) 0 :=
  bigSep_elim (Finset.mem_univ ck)
omit [FloatOps F] in
theorem ctx_inv (ck : Dev nD × KI) : ctx (F := F) m ρ r K ⊢ cellInv ER (rd m ρ r) (K ck) (kcell ck) := by
  unfold ctx records
  iintro ⟨⟨H, -⟩, -⟩
  iapply (inv_at m ρ r K ck); iexact H
omit [FloatOps F] in
theorem ctx_reached (ck : Dev nD × KI) : ctx (F := F) m ρ r K ⊢ reached ER (kcell ck) 0 := by
  unfold ctx records
  iintro ⟨⟨-, H⟩, -⟩
  iapply (reached_at (F := F) ck); iexact H
omit [FloatOps F] in
theorem ctx_wait (c : Dev nD) (sm : SemLoc sig) (l : List Due) (n : ℕ) (hn : lv ((c : Thread nD τ), sm) () ≤ n) (hl : ∀ x ∈ l, n < lvDue x) :
    ctx (F := F) m ρ r K ⊢ MayWait (c : Thread nD τ) sm () (owedL r c l) :=
by
  unfold ctx
  iintro ⟨-, H⟩
  iapply (mayWait r c sm l n hn hl); iexact H

/-- Device `c` owes the payments of `l`, whatever waits it has made. -/
def ow (c : Dev nD) (l : List Due) : sProp 𝕄 := iprop(∃ W, owes (c : Thread nD τ) (owedL r c l) W)

/-! ## The stages of a copy -/

def slot (c : Dev nD) (b : BI16) : sProp 𝕄 :=
  iprop(atPos ER (dCell c (b.1, false, b.2)) 0 ∅ 0 ∗ atPos ER (dCell c (b.1, true, b.2)) 0 ∅ 0
    ∗ dutyTok ER (dCell c (b.1, false, b.2)) 0 (0 : Fin 4) ∗ dutyTok ER (dCell (tgt r b.1 c) (b.1, true, b.2)) 0 (0 : Fin 4)
    ∗ cred (tallyAt (dCell c (b.1, true, b.2)) () N))
def dest (c : Dev nD) (b : BI16) : sProp 𝕄 := iprop(∃ f, ptsO (tgt r b.1 c) c b.2 fullShare f)
def ready (c : Dev nD) (b : BI16) : sProp 𝕄 := iprop(slot r c b ∗ dest r c b)
def sent (c : Dev nD) (b : BI16) : sProp 𝕄 :=
  iprop(atPos ER (dCell c (b.1, false, b.2)) 0 ∅ 0 ∗ atPos ER (dCell c (b.1, true, b.2)) 0 ∅ 0
    ∗ cred (tallyAt (dCell c (b.1, true, b.2)) () N) ∗ cred (tallyAt (dCell c (b.1, false, b.2)) () N))
def over (c : Dev nD) (b : BI16) : sProp 𝕄 :=
  iprop(atPos ER (dCell c (b.1, false, b.2)) 1 ∅ 0 ∗ atPos ER (dCell c (b.1, true, b.2)) 1 ∅ 0)

/-- The rows device `c` hands the device whose kind-`k` copies land on it. -/
def give (c : Dev nD) (k : Fin 4) : sProp 𝕄 := bigSep Finset.univ fun i : Fin 4 => iprop(∃ f, ptsO c (org r k c) i fullShare f)

omit [FloatOps F] in
theorem give_eq (c : Dev nD) (k : Fin 4) : (give r c k : sProp 𝕄) = barPay r (org r k c) k := by
  unfold give barPay; rw [tgt_org]

omit [FloatOps F] in
theorem payload_bar (c : Dev nD) (k : Fin 4) : ((rd (F := F) m ρ r).payload (barCell c) 0 k : sProp 𝕄) = barPay r c k := rfl

/-! ## The handshake -/

theorem signal_step (c n : Dev nD) (k : Fin 4) (hn : n = org r k c) (k' : Int) (hk : k' = 1) (l : List Due) (hr : τ.routes (c : Thread nD τ) (Dev.tc n) = true := by routes)
    {α : Type} {Q : α → sProp 𝕄} {kk : PUnit → Prog (TpuEff nD τ sig (Elt F) Λ₀ .tc) α} :
    iprop(ctx m ρ r K ∗ ow r c (.inl k :: l) ∗ dutyTok ER (barCell (org r k c)) 0 k ∗ give r c k)
      ⊢ iprop((ow r c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n) barS k') kk) Q) := by
  subst hn hk
  iintro ⟨#Hc, HO, Ht, Hg⟩ Hk
  unfold ow
  icases HO with ⟨%W, HO⟩
  iapply (Rounds.wp_signal 𝒱₀ ER (rd m ρ r) (c : Thread nD τ) none (dst := (org r k c : Thread nD τ)) (κ := K (org r k c, .inl ()))
      (d := k) (r := 0) (k' := 1) (by rw [duties_bar]; exact Finset.mem_univ _) rfl () (owedL r c l) rfl hr) $$ [HO Ht Hg]
  · isplitr; · iapply (ctx_inv m ρ r K (org r k c, .inl ())); iexact Hc
    isplitl [HO]; · iexact HO
    isplitl [Ht]; · iexact Ht
    isplitl [Hg]; · iapply (Entails.of_eq ((give_eq r c k).trans (payload_bar m ρ r (org r k c) k).symm)); iexact Hg
    iapply (ctx_reached m ρ r K (org r k c, .inl ())); iexact Hc
  iintro HO
  iapply Hk
  iexists W; iexact HO

theorem lv_bar (c : Dev nD) : lv (barCell c) () = 1 := rfl
theorem lv_copies : ∀ x ∈ copies, 1 < lvDue x := by decide

omit [FloatOps F] in
theorem rest_bar' (c : Dev nD) :
    (bigSep ((rd (F := F) m ρ r).duties (barCell c) 0 \ ∅) (fun d => (rd (F := F) m ρ r).payload (barCell c) 0 d) : sProp 𝕄)
      = bigSep Finset.univ fun b : BI16 => dest r c b := by
  rw [rest_bar, bigSep_univ_prod]; rfl

theorem bar_wait (c : Dev nD) (k' : Int) (hk : k' = 4) {α : Type} {Q : α → sProp 𝕄} {kk : PUnit → Prog (TpuEff nD τ sig (Elt F) Λ₀ .tc) α} :
    iprop(ctx m ρ r K ∗ ow r c copies ∗ cred (tallyAt (barCell c) () 4) ∗ atPos ER (barCell c) 0 ∅ 0)
      ⊢ iprop(((ow r c copies ∗ atPos ER (barCell c) 1 ∅ 0 ∗ bigSep Finset.univ fun b : BI16 => dest r c b)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS k') kk) Q) := by
  subst hk
  iintro ⟨#Hc, HO, Hcr, Hat⟩ Hk
  unfold ow
  icases HO with ⟨%W, HO⟩
  iapply (Rounds.wp_wait_rest_token 𝒱₀ ER (rd m ρ r) (c : Thread nD τ) none (κ := K (c, .inl ()))
      (wpE_semWait_eq 𝒱₀ (c : Thread nD τ) none Set.univ) (Set.mem_univ _) () (O := owedL r c copies) (W := W) (R := 0) (m := 0) (T := ∅)
      (by rw [expect_bar])) $$ [Hcr HO Hat]
  · isplitr; · iapply (ctx_inv m ρ r K (c, .inl ())); iexact Hc
    isplitl [Hcr]; · iexact Hcr
    isplitl [HO]; · iexact HO
    isplitr
    · iapply (ctx_wait m ρ r K c (.reg barS) copies 1 (Nat.le_of_eq (lv_bar c)) lv_copies); iexact Hc
    iexact Hat
  iintro ⟨HO, Hat, -, Hpay⟩
  iapply Hk
  isplitl [HO]; · iexists _; iexact HO
  isplitl [Hat]; · iexact Hat
  iapply (Entails.of_eq (rest_bar' m ρ r c)); iexact Hpay

/-! ## A copy -/

omit [FloatOps F] in
theorem srcPts_0 (c : Dev nD) (i : Fin 4) : (srcPts m ρ r c 0 i : sProp 𝕄) = ((xV c i).view.loc (c : Thread nD τ) ↦[(xV c i).view.set]{fullShare} xstg m ρ c) := by
  unfold srcPts; rw [if_pos rfl]; rfl
omit [FloatOps F] in
theorem srcPts_R (c : Dev nD) (k i : Fin 4) (hk : k ≠ 0) :
    (srcPts m ρ r c k i : sProp 𝕄) = ((oV c i).view.loc (c : Thread nD τ) ↦[(oV c i).view.set]{shr k} xstg m ρ (org r 0 c)) := by
  unfold srcPts; rw [if_neg hk]; rfl
omit [FloatOps F] in
theorem copyPay_f (c : Dev nD) (k i : Fin 4) : (copyPay m ρ r c (k, false, i) : sProp 𝕄) = srcPts m ρ r c k i := rfl
omit [FloatOps F] in
theorem copyPay_t (c : Dev nD) (k i : Fin 4) : (copyPay m ρ r c (k, true, i) : sProp 𝕄) = dstPts m ρ r c k i := rfl

omit [FloatOps F] in
theorem landX (c : Dev nD) (i : Fin 4) (fs : Buf (Elt F) ((xV c i).view.loc (c : Thread nD τ))) (n : Dev nD) (fd : Buf (Elt F) ((oV c i).view.loc (n : Thread nD τ))) :
    ((oV c i).view.loc (n : Thread nD τ) ↦[(oV c i).view.set]{fullShare} (oV c i).view.write (Elt F) fd ((xV c i).view.read (Elt F) fs) Finset.univ : sProp 𝕄)
      = ptsO n c i fullShare fs := by
  unfold ptsO
  refine pointsTo_congr fun x hx => ?_
  obtain ⟨y, -, rfl⟩ := Finset.mem_map.mp hx
  rw [View.write_emb, if_pos (Finset.mem_univ _), View.read_apply]
  rfl
omit [FloatOps F] in
theorem landO (c : Dev nD) (i : Fin 4) (fs : Buf (Elt F) ((oV c i).view.loc (c : Thread nD τ))) (n : Dev nD) (fd : Buf (Elt F) ((oV c i).view.loc (n : Thread nD τ))) :
    ((oV c i).view.loc (n : Thread nD τ) ↦[(oV c i).view.set]{fullShare} (oV c i).view.write (Elt F) fd ((oV c i).view.read (Elt F) fs) Finset.univ : sProp 𝕄)
      = ptsO n c i fullShare fs := by
  unfold ptsO
  refine pointsTo_congr fun x hx => ?_
  obtain ⟨y, -, rfl⟩ := Finset.mem_map.mp hx
  rw [View.write_emb, if_pos (Finset.mem_univ _), View.read_apply]
  rfl

omit [FloatOps F] in
theorem dstPts_tgt0 (c : Dev nD) (i : Fin 4) : dstPts m ρ r (tgt r 0 c) 0 i = ptsO (tgt r 0 c) c i fullShare (xstg m ρ c) := by
  unfold dstPts root; rw [if_pos rfl, org_tgt]
omit [FloatOps F] in
theorem dstPts_tgt (k : Fin 4) (hk : k ≠ 0) (c : Dev nD) (i : Fin 4) : dstPts m ρ r (tgt r k c) k i = ptsO (tgt r k c) c i fullShare (xstg m ρ (org r 0 c)) := by
  unfold dstPts root; rw [if_neg hk, org_tgt]

/-- A kind-0 copy: chunk `i` of the device's own input to its z peer. -/
theorem send0 (c n : Dev nD) (i : Fin 4) (hn : n = tgt r 0 c) (s1 s2 : DmaSem sig) (h1 : s1 = dsem (0, false, i)) (h2 : s2 = dsem (0, true, i))
    (src dst : Memref sig .tc .vmem S1x128x1024 .f32) (hs : src = xV c i) (hd : dst = oV c i) (l : List Due)
    {hsc : dst.view.ref.isScScratch = false} {hsrc : src.view.WordExact} {hdst : dst.view.WordExact}
    {hsem : DmaTarget.Typed .vmem (.dma s2) (.remote (Dev.tc n : Thread nD τ) dst (.dma s1) hsc)} (hr : τ.routes (c : Thread nD τ) (Dev.tc n) = true := by routes)
    {α : Type} {Q : α → sProp 𝕄} {kk : PUnit → Prog (TpuEff nD τ sig (Elt F) Λ₀ .tc) α} :
    iprop(ctx m ρ r K ∗ ow r c (.inr (0, i) :: l) ∗ ready r c (0, i) ∗ srcPts m ρ r c 0 i)
      ⊢ iprop(((ow r c l ∗ sent c (0, i)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) kk) Q) := by
  subst hn h1 h2 hs hd
  iintro ⟨#Hc, HO, Hr, Hx⟩ Hk
  unfold ow ready slot dest
  icases HO with ⟨%W, HO⟩
  icases Hr with ⟨⟨Ha, Hb, Ht1, Ht2, Hcr⟩, %fd, Hd⟩
  iapply (Rounds.wp_send_pointsTo 𝒱₀ ER (rd m ρ r) (c : Thread nD τ) none (κ₁ := K (c, .inr (0, false, i))) (κ₂ := K (tgt r 0 c, .inr (0, true, i)))
    (r₁ := 0) (r₂ := 0) (d₁ := 0) (d₂ := 0) (q := fullShare) (fs := xstg m ρ c) (fd := fd)
    (by rw [duties_copy]; exact Finset.mem_singleton_self _) (by rw [duties_copy]; exact Finset.mem_singleton_self _)
    () () N rfl rfl rfl (owedL r c l) rfl (W := W)
    (by rw [payload_copy, copyPay_f, srcPts_0])
    (by rw [payload_copy, landX]; exact Entails.of_eq (dstPts_tgt0 m ρ r c i).symm) hr) $$ [HO Hx Hd Ht1 Ht2]
  · isplitr; · iapply (ctx_inv m ρ r K (c, .inr (0, false, i))); iexact Hc
    isplitr; · iapply (ctx_inv m ρ r K (tgt r 0 c, .inr (0, true, i))); iexact Hc
    isplitl [Hx]; · iapply (Entails.of_eq (srcPts_0 m ρ r c i)); iexact Hx
    isplitl [Hd]; · unfold ptsO; iexact Hd
    isplitl [HO]; · iexact HO
    isplitl [Ht1]; · iexact Ht1
    isplitr; · iapply (ctx_reached m ρ r K (c, .inr (0, false, i))); iexact Hc
    isplitl [Ht2]; · iexact Ht2
    iapply (ctx_reached m ρ r K (tgt r 0 c, .inr (0, true, i))); iexact Hc
  iintro ⟨Hcs, HO⟩
  iapply Hk
  unfold sent
  isplitl [HO]; · iexists W; iexact HO
  isplitl [Ha]; · iexact Ha
  isplitl [Hb]; · iexact Hb
  isplitl [Hcr] <;> iassumption

/-- A relay: chunk `i` of the rows that came from the z peer, to a partner. -/
theorem sendR (k : Fin 4) (hk0 : k ≠ 0) (c n : Dev nD) (i : Fin 4) (hn : n = tgt r k c) (s1 s2 : DmaSem sig) (h1 : s1 = dsem (k, false, i)) (h2 : s2 = dsem (k, true, i))
    (src dst : Memref sig .tc .vmem S1x128x1024 .f32) (hs : src = oV c i) (hd : dst = oV c i) (l : List Due)
    {hsc : dst.view.ref.isScScratch = false} {hsrc : src.view.WordExact} {hdst : dst.view.WordExact}
    {hsem : DmaTarget.Typed .vmem (.dma s2) (.remote (Dev.tc n : Thread nD τ) dst (.dma s1) hsc)} (hr : τ.routes (c : Thread nD τ) (Dev.tc n) = true := by routes)
    {α : Type} {Q : α → sProp 𝕄} {kk : PUnit → Prog (TpuEff nD τ sig (Elt F) Λ₀ .tc) α} :
    iprop(ctx m ρ r K ∗ ow r c (.inr (k, i) :: l) ∗ ready r c (k, i) ∗ srcPts m ρ r c k i)
      ⊢ iprop(((ow r c l ∗ sent c (k, i)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma s1) hsc) (.dma s2) hsrc hdst hsem) kk) Q) := by
  subst hn h1 h2 hs hd
  iintro ⟨#Hc, HO, Hr, Hx⟩ Hk
  unfold ow ready slot dest
  icases HO with ⟨%W, HO⟩
  icases Hr with ⟨⟨Ha, Hb, Ht1, Ht2, Hcr⟩, %fd, Hd⟩
  iapply (Rounds.wp_send_pointsTo 𝒱₀ ER (rd m ρ r) (c : Thread nD τ) none (κ₁ := K (c, .inr (k, false, i))) (κ₂ := K (tgt r k c, .inr (k, true, i)))
    (r₁ := 0) (r₂ := 0) (d₁ := 0) (d₂ := 0) (q := shr k) (fs := xstg m ρ (org r 0 c)) (fd := fd)
    (by rw [duties_copy]; exact Finset.mem_singleton_self _) (by rw [duties_copy]; exact Finset.mem_singleton_self _)
    () () N rfl rfl rfl (owedL r c l) rfl (W := W)
    (by rw [payload_copy, copyPay_f, srcPts_R m ρ r c k i hk0])
    (by rw [payload_copy, landO]; exact Entails.of_eq (dstPts_tgt m ρ r k hk0 c i).symm) hr) $$ [HO Hx Hd Ht1 Ht2]
  · isplitr; · iapply (ctx_inv m ρ r K (c, .inr (k, false, i))); iexact Hc
    isplitr; · iapply (ctx_inv m ρ r K (tgt r k c, .inr (k, true, i))); iexact Hc
    isplitl [Hx]; · iapply (Entails.of_eq (srcPts_R m ρ r c k i hk0)); iexact Hx
    isplitl [Hd]; · unfold ptsO; iexact Hd
    isplitl [HO]; · iexact HO
    isplitl [Ht1]; · iexact Ht1
    isplitr; · iapply (ctx_reached m ρ r K (c, .inr (k, false, i))); iexact Hc
    isplitl [Ht2]; · iexact Ht2
    iapply (ctx_reached m ρ r K (tgt r k c, .inr (k, true, i))); iexact Hc
  iintro ⟨Hcs, HO⟩
  iapply Hk
  unfold sent
  isplitl [HO]; · iexists W; iexact HO
  isplitl [Ha]; · iexact Ha
  isplitl [Hb]; · iexact Hb
  isplitl [Hcr] <;> iassumption

/-- The two waits of a copy: the rows it read come back, and the rows the peer's copy filled. -/
theorem wait2 (c : Dev nD) (b : BI16) (s1 s2 : DmaSem sig) (h1 : s1 = dsem (b.1, false, b.2)) (h2 : s2 = dsem (b.1, true, b.2))
    (a1 a2 a3 a4 : Memref sig .tc .vmem S1x128x1024 .f32) (ha : a2.view.dmaCredit = N) (hb : a4.view.dmaCredit = N)
    (l : List Due) (hl0 : ∀ x ∈ l, 0 < lvDue x) (hl : ∀ x ∈ l, lvC (b.1, true, b.2) < lvDue x)
    {w1 : a1.view.WordExact} {w2 : a2.view.WordExact} {w3 : a3.view.WordExact} {w4 : a4.view.WordExact}
    {α : Type} {Q : α → sProp 𝕄} {kk : PUnit → Prog (TpuEff nD τ sig (Elt F) Λ₀ .tc) α} :
    iprop(ctx m ρ r K ∗ ow r c l ∗ sent c b)
      ⊢ iprop(((ow r c l ∗ over c b ∗ srcPts m ρ r c b.1 b.2 ∗ dstPts m ρ r c b.1 b.2) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s1 a1 a2 w1 w2) fun _ => .op (.waitDma2 s2 a3 a4 w3 w4) kk) Q) := by
  subst h1 h2
  obtain ⟨k, i⟩ := b
  iintro ⟨#Hc, HO, Hs⟩ Hk
  unfold ow sent
  icases HO with ⟨%W, HO⟩
  icases Hs with ⟨Ha, Hb, Hcr, Hcs⟩
  iapply (Rounds.wp_wait_rest_token 𝒱₀ ER (rd m ρ r) (c : Thread nD τ) none (κ := K (c, .inr (k, false, i)))
      (wpE_waitDma2_eq 𝒱₀ (c : Thread nD τ) none Set.univ) (Set.mem_univ _) () (O := owedL r c l) (W := W) (R := 0) (m := 0) (T := ∅)
      (by rw [expect_copy, ha, Nat.zero_add])) $$ [Hcs HO Ha]
  · isplitr; · iapply (ctx_inv m ρ r K (c, .inr (k, false, i))); iexact Hc
    isplitl [Hcs]; · rw [ha]; iexact Hcs
    isplitl [HO]; · iexact HO
    isplitr
    · iapply (ctx_wait m ρ r K c (.dma (dsem (k, false, i))) l 0 (Nat.le_of_eq (lv_copy c (k, false, i))) hl0); iexact Hc
    iexact Ha
  iintro ⟨HO, Ha, -, Hp1⟩
  iapply (Rounds.wp_wait_rest_token 𝒱₀ ER (rd m ρ r) (c : Thread nD τ) none (κ := K (c, .inr (k, true, i)))
      (wpE_waitDma2_eq 𝒱₀ (c : Thread nD τ) none Set.univ) (Set.mem_univ _) () (O := owedL r c l) (R := 0) (m := 0) (T := ∅)
      (by rw [expect_copy, hb, Nat.zero_add])) $$ [Hcr HO Hb]
  · isplitr; · iapply (ctx_inv m ρ r K (c, .inr (k, true, i))); iexact Hc
    isplitl [Hcr]; · rw [hb]; iexact Hcr
    isplitl [HO]; · iexact HO
    isplitr
    · iapply (ctx_wait m ρ r K c (.dma (dsem (k, true, i))) l (lvC (k, true, i)) (Nat.le_of_eq (lv_copy c (k, true, i))) hl); iexact Hc
    iexact Hb
  iintro ⟨HO, Hb, -, Hp2⟩
  ihave H1 := (Entails.of_eq ((rest_copy m ρ r c (k, false, i)).trans (copyPay_f m ρ r c k i))) $$ Hp1
  ihave H2 := (Entails.of_eq ((rest_copy m ρ r c (k, true, i)).trans (copyPay_t m ρ r c k i))) $$ Hp2
  iapply Hk
  unfold over
  isplitl [HO]; · iexists _; iexact HO
  isplitl [Ha Hb]
  · isplitl [Ha]; · iexact Ha
    iexact Hb
  isplitl [H1]
  · iexact H1
  iexact H2

/-- A copy's two cells close. -/
theorem close_step (c : Dev nD) (b : BI16) : iprop(ctx m ρ r K ∗ over c b)
    ⊢ |={Set.univ}=> iprop(semVal (dCell c (b.1, false, b.2)) 0 ∗ semVal (dCell c (b.1, true, b.2)) 0) := by
  unfold over
  iintro ⟨#Hc, Ha, Hb⟩
  imod (Rounds.cell_close ER (rd m ρ r) (Set.mem_univ (K (c, .inr (b.1, false, b.2)))) (fun h => h) (R := 1) (duties_later m ρ r (dCell c (b.1, false, b.2)))) $$ [Ha] with HzS
  · isplitr; · iapply (ctx_inv m ρ r K (c, .inr (b.1, false, b.2))); iexact Hc
    iexact Ha
  imod (Rounds.cell_close ER (rd m ρ r) (Set.mem_univ (K (c, .inr (b.1, true, b.2)))) (fun h => h) (R := 1) (duties_later m ρ r (dCell c (b.1, true, b.2)))) $$ [Hb] with HzR
  · isplitr; · iapply (ctx_inv m ρ r K (c, .inr (b.1, true, b.2))); iexact Hc
    iexact Hb
  imodintro
  isplitl [HzS] <;> iassumption

theorem close_bar (c : Dev nD) : iprop(ctx m ρ r K ∗ atPos ER (barCell c) 1 ∅ 0) ⊢ |={Set.univ}=> semVal (barCell c) 0 := by
  iintro ⟨#Hc, Ha⟩
  iapply (Rounds.cell_close ER (rd m ρ r) (Set.mem_univ (K (c, .inl ()))) (fun h => h) (R := 1) (duties_later m ρ r (barCell c)))
  isplitr; · iapply (ctx_inv m ρ r K (c, .inl ())); iexact Hc
  iexact Ha

/-! ## Rows relayed three ways -/

omit [FloatOps F] in
/-- The rows that came from the z peer, in the three shares the relays read them under. -/
theorem shares (c : Dev nD) (i : Fin 4) :
    (dstPts m ρ r c 0 i : sProp 𝕄) ⊣⊢ iprop(srcPts m ρ r c 1 i ∗ srcPts m ρ r c 2 i ∗ srcPts m ρ r c 3 i) := by
  have h : (dstPts m ρ r c 0 i : sProp 𝕄) = ptsO c c i fullShare (xstg m ρ (org r 0 c)) := by
    unfold dstPts root; rw [if_pos rfl]; exact ptsO_congr c (quart_org0 r c) i _ _
  rw [h]
  refine (show _ ⊣⊢ iprop(ptsO c c i fullShare.left (xstg m ρ (org r 0 c)) ∗ ptsO c c i fullShare.right (xstg m ρ (org r 0 c))) from
    pointsTo_share (PosShare.mem_left_op_right fullShare)).trans ?_
  exact sep_congr_right (pointsTo_share (PosShare.mem_left_op_right fullShare.right))

end Cert.KProof

end
-- ==== Proof.Body.lean ====
/-
# The kernel on one device

The body is run once, at a device `c` left open, from its share of the launch to the result buffer filled and every cell closed.
-/
module

public import proofs.«01_k».proof.Proof.Steps
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (r : Fin 4) (K : Dev nD × KI → ℕ)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_16 (Φ : BI16 → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3))
      ∗ (Φ (2, 0) ∗ Φ (2, 1) ∗ Φ (2, 2) ∗ Φ (2, 3)) ∗ (Φ (3, 0) ∗ Φ (3, 1) ∗ Φ (3, 2) ∗ Φ (3, 3))) := by
  rw [bigSep_univ_prod, bigSep_fin4, bigSep_fin4, bigSep_fin4, bigSep_fin4, bigSep_fin4]
omit [FloatOps F] in
theorem bigSep_CI (Φ : CI → sProp 𝕄) : bigSep Finset.univ Φ = bigSep Finset.univ fun b : BI16 => iprop(Φ (b.1, false, b.2) ∗ Φ (b.1, true, b.2)) := by
  rw [bigSep_univ_prod, bigSep_univ_prod]
  refine bigSep_congr fun k _ => ?_
  rw [bigSep_univ_prod, bigSep_sep', bigSep_univ_eq_bigSepL [false, true] (by decide) (by decide)]
  rfl

/-! ## The buffers, cut into blocks and joined again -/

omit [FloatOps F] in
theorem give_of (c : Dev nD) (k : Fin 4) (f : S1x2048x1024.Idx → Elt F .f32) :
    (bigSep Finset.univ fun i : Fin 4 => ptsO c (org r k c) i fullShare f) ⊢ (give r c k : sProp 𝕄) :=
  bigSep_mono fun i _ => show ptsO c (org r k c) i fullShare f ⊢ iprop(∃ f, ptsO c (org r k c) i fullShare f) from by
    iintro H; iexists f; iexact H

omit [FloatOps F] in
theorem out_give (c : Dev nD) (f : S1x2048x1024.Idx → Elt F .f32) : (((c : Thread nD τ).loc cc0_stg2_0) ↦{fullShare} f : sProp 𝕄)
    ⊢ iprop(give r c 0 ∗ give r c 1 ∗ give r c 2 ∗ give r c 3) := by
  rw [outSplit r c f, bigSep_univ_prod, bigSep_fin4]
  exact BI.sep_mono (give_of r c 0 f) (BI.sep_mono (give_of r c 1 f) (BI.sep_mono (give_of r c 2 f) (give_of r c 3 f)))

/-- The rows of the input the device does not send. -/
def xRest (c : Dev nD) : sProp 𝕄 :=
  iprop((bigSep Finset.univ fun i : Fin 4 => ptsX c (org r 1 c) i fullShare (xstg m ρ c))
    ∗ (bigSep Finset.univ fun i : Fin 4 => ptsX c (org r 2 c) i fullShare (xstg m ρ c))
    ∗ (bigSep Finset.univ fun i : Fin 4 => ptsX c (org r 3 c) i fullShare (xstg m ρ c)))

omit [FloatOps F] in
theorem x_parts (c : Dev nD) : (((c : Thread nD τ).loc cc0_stg0_0) ↦{fullShare} xstg m ρ c : sProp 𝕄)
    = iprop((srcPts m ρ r c 0 0 ∗ srcPts m ρ r c 0 1 ∗ srcPts m ρ r c 0 2 ∗ srcPts m ρ r c 0 3) ∗ xRest m ρ r c) := by
  rw [xSplit r c, bigSep_univ_prod, bigSep_fin4]
  refine congrArg₂ BIBase.sep ?_ rfl
  rw [bigSep_fin4]
  have h (i : Fin 4) : (ptsX c (org r 0 c) i fullShare (xstg m ρ c) : sProp 𝕄) = srcPts m ρ r c 0 i := by
    rw [srcPts_0, ptsX_congr c (quart_org0 r c)]; rfl
  simp only [h]

omit [FloatOps F] in
theorem out_join (c : Dev nD) : (bigSep Finset.univ fun b : BI16 => dstPts m ρ r c b.1 b.2) ⊢ (((c : Thread nD τ).loc cc0_stg2_0) ↦{fullShare} outAt m ρ r c : sProp 𝕄) := by
  rw [outBlk_eq]; exact Entails.refl _

theorem close_all (c : Dev nD) : iprop(ctx m ρ r K ∗ bigSep Finset.univ fun b : BI16 => (over c b : sProp 𝕄))
    ⊢ |={Set.univ}=> bigSep Finset.univ fun i : CI => semVal (dCell c i) 0 := by
  rw [bigSep_CI]
  exact (bigSep_with_persistent (R := ctx m ρ r K) fun b _ => close_step m ρ r K c b).trans (bigSep_fupd _ _)

/-! ## Before and after -/

/-- What a device starts from: its barrier's position and credit, the tokens of the four barrier duties it pays, and its copies. -/
def start (c : Dev nD) : sProp 𝕄 :=
  iprop(atPos ER (barCell c) 0 ∅ 0 ∗ cred (tallyAt (barCell c) () 4) ∗ (bigSep Finset.univ fun k : Fin 4 => dutyTok ER (barCell (org r k c)) 0 k)
    ∗ bigSep Finset.univ fun b : BI16 => slot r c b)

def Φ₀ (c : Dev nD) : sProp 𝕄 := iprop(∃ K, ctx m ρ r K ∗ start r c)
/-- All cells at zero. -/
def Φ₁ (c : Dev nD) : sProp 𝕄 := iprop((bigSep Finset.univ fun i : CI => semVal (dCell c i) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => pstg m ρ c
    | ⟨2, _⟩ => outAt m ρ r c
  Φ t := match t with
    | ⟨0, _⟩ => Φ₀ m ρ r c
    | ⟨_ + 1, _⟩ => Φ₁ c
  q _ := fullShare
  owed t := match t with
    | ⟨0, _⟩ => owedL r c dues
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ctx m ρ r K ∗ start r c)
    ∗ (dats m ρ r 0 c).owesAt () t0_0.castSucc
    ∗ (∃ d, stg c cc0_stg0_0 ((dats m ρ r 0 c).before (0 : Fin 3) t0_0 d))
    ∗ (∃ d, stg c cc0_stg1_0 ((dats m ρ r 0 c).before (1 : Fin 3) t0_0 d))
    ∗ (∃ d, stg c cc0_stg2_0 ((dats m ρ r 0 c).before (2 : Fin 3) t0_0 d)))

def bodyPost (c : Dev nD) : sProp 𝕄 :=
  iprop(Φ₁ c ∗ (dats m ρ r 0 c).owesAt () t0_0.succ ∗ stg c cc0_stg0_0 (xstg m ρ c) ∗ stg c cc0_stg1_0 (pstg m ρ c) ∗ stg c cc0_stg2_0 (outAt m ρ r c))

/-- Chunk rows as the kernel spells them. -/
abbrev xL (c : Dev nD) (o : BitVec 32) (h : ∀ a, k0_off1 c o a + S1x128x1024.size a ≤ S1x2048x1024.size a) : Memref sig .tc .vmem S1x128x1024 .f32 :=
  xM.slice (Rect.unit (s := S1x2048x1024) (k0_off1 c o) S1x128x1024.size h) (fun _ => rfl)
abbrev oL (c : Dev nD) (o : BitVec 32) (h : ∀ a, k0_off1 c o a + S1x128x1024.size a ≤ S1x2048x1024.size a) : Memref sig .tc .vmem S1x128x1024 .f32 :=
  oM.slice (Rect.unit (s := S1x2048x1024) (k0_off1 c o) S1x128x1024.size h) (fun _ => rfl)
/-- Semaphore `i` of an array of four. -/
abbrev sL (A : DmaSems sig S4) (i : ℕ) (h : ∀ a, (![i] : Fin 1 → ℕ) a + S1.size a ≤ S4.size a) : DmaSem sig :=
  ((SemArray.slice A (Rect.unit (s := S4) ![i] S1.size h)).squeeze S_ squeezes_S1_S_).sem

/-- The word the kernel reads from the permutation. -/
abbrev wAt (c : Dev nD) : BitVec 32 :=
  (pM.access (Rect.unit (s := S4) ![0] S1.size inb_S4_S1_0) : View sig .tc _ _ _).read (Elt F) (pstg m ρ c) (Shape.Idx.first (by decide))

omit [FloatOps F] in
theorem ready_16 (c : Dev nD) : (bigSep Finset.univ fun b : BI16 => iprop(slot r c b ∗ dest r c b))
    ⊢ (iprop((ready r c (0, 0) ∗ ready r c (0, 1) ∗ ready r c (0, 2) ∗ ready r c (0, 3)) ∗ (ready r c (1, 0) ∗ ready r c (1, 1) ∗ ready r c (1, 2) ∗ ready r c (1, 3))
      ∗ (ready r c (2, 0) ∗ ready r c (2, 1) ∗ ready r c (2, 2) ∗ ready r c (2, 3)) ∗ (ready r c (3, 0) ∗ ready r c (3, 1) ∗ ready r c (3, 2) ∗ ready r c (3, 3))) : sProp 𝕄) :=
  Entails.of_eq (bigSep_16 (fun b => ready r c b))
omit [FloatOps F] in
theorem over_16 (c : Dev nD) :
    (iprop((over c (0, 0) ∗ over c (0, 1) ∗ over c (0, 2) ∗ over c (0, 3)) ∗ (over c (1, 0) ∗ over c (1, 1) ∗ over c (1, 2) ∗ over c (1, 3))
      ∗ (over c (2, 0) ∗ over c (2, 1) ∗ over c (2, 2) ∗ over c (2, 3)) ∗ (over c (3, 0) ∗ over c (3, 1) ∗ over c (3, 2) ∗ over c (3, 3))) : sProp 𝕄)
    ⊢ bigSep Finset.univ fun b : BI16 => over c b := Entails.of_eq (bigSep_16 (fun b => over c b)).symm
omit [FloatOps F] in
theorem dst_16 (c : Dev nD) :
    (iprop((dstPts m ρ r c 0 0 ∗ dstPts m ρ r c 0 1 ∗ dstPts m ρ r c 0 2 ∗ dstPts m ρ r c 0 3) ∗ (dstPts m ρ r c 1 0 ∗ dstPts m ρ r c 1 1 ∗ dstPts m ρ r c 1 2 ∗ dstPts m ρ r c 1 3)
      ∗ (dstPts m ρ r c 2 0 ∗ dstPts m ρ r c 2 1 ∗ dstPts m ρ r c 2 2 ∗ dstPts m ρ r c 2 3) ∗ (dstPts m ρ r c 3 0 ∗ dstPts m ρ r c 3 1 ∗ dstPts m ρ r c 3 2 ∗ dstPts m ρ r c 3 3)) : sProp 𝕄)
    ⊢ bigSep Finset.univ fun b : BI16 => dstPts m ρ r c b.1 b.2 := Entails.of_eq (bigSep_16 (fun b => dstPts m ρ r c b.1 b.2)).symm

set_option maxHeartbeats 8000000 in
/-- The kernel from `bodyPre` to `bodyPost`, one rule per effect in program order. -/
theorem sound_body (hpi : ∀ c, wAt m ρ c = w0 r) (c : Dev nD) (Kt : PUnit → sProp 𝕄) :
    iprop(bodyPre m ρ r K c ∗ (bodyPost m ρ r c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) cc0_scratch0 cc0_scratch1 cc0_scratch2 cc0_scratch3 cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part18_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, smemLoad, smemLoadElt, Prog.lift, Prog.bind_op, Prog.bind_ret, Prog.pure_eq_ret, Prog.bind_assoc, wp_deviceId]
  unfold bodyPre start
  iintro ⟨⟨⟨#Hc, HatB, HcB, Htk, Hsl⟩, Ho, ⟨%d0, %g0, %hg0, Hx⟩, ⟨%d1, %g1, %hg1, Hp⟩, ⟨%d2, %g2, %hg2, Hout⟩⟩, Hk⟩
  have hx : g0 = xstg m ρ c := by rw [hg0]; unfold Dat.before; rw [if_pos (fetch0_0 t0_0)]; rfl
  have hp : g1 = pstg m ρ c := by rw [hg1]; unfold Dat.before; rw [if_pos (fetch0_1 t0_0)]; rfl
  subst hx hp
  unfold Dat.owesAt Pipeline.owesWithin
  icases Ho with ⟨%W, %hW, HO⟩
  rw [show (dats m ρ r 0 c).owed t0_0.castSucc = owedL r c dues from rfl]
  ihave HO := (show owes (c : Thread nD τ) (owedL r c dues) W ⊢ (ow r c dues : sProp 𝕄) from by unfold ow; iintro H; iexists W; iexact H) $$ HO
  ihave Htk := (Entails.of_eq (bigSep_fin4 (F := F) _)) $$ Htk
  icases Htk with ⟨Ht0, Ht1, Ht2, Ht3⟩
  ihave Hout := (out_give r c g2) $$ Hout
  icases Hout with ⟨Hg0, Hg1, Hg2, Hg3⟩
  ihave Hx := (Entails.of_eq (x_parts m ρ r c)) $$ Hx
  icases Hx with ⟨⟨X0, X1, X2, X3⟩, HxR⟩
  -- the word of the permutation
  iapply (wp_load_rect 𝒱₀ (c : Thread nD τ) none Set.univ (m := pM) (r := Rect.unit (s := S4) ![0] S1.size inb_S4_S1_0) (Finset.subset_univ _)) $$ Hp; iintro Hp
  have hw : wAt m ρ c = w0 r := hpi c
  have chk : k0_chk1 c (wAt m ρ c) := by rw [hw]; exact chk_ok r c
  simp only [wp_assume_of _ _ _ _ (d := k0_chk1.dec _ _) chk]
  have e1 : k0_dev1 c (wAt m ρ c) = (org r 0 c).val := by rw [hw]; exact dev1_eq r c
  have e5 : k0_dev5 c (wAt m ρ c) = (tgt r 0 c).val := by rw [hw]; exact dev5_eq r c
  have e6 : k0_dev6 c (wAt m ρ c) = (tgt r 0 c).val := by rw [hw]; exact dev6_eq r c
  have e7 : k0_dev7 c (wAt m ρ c) = (tgt r 0 c).val := by rw [hw]; exact dev7_eq r c
  have e8 : k0_dev8 c (wAt m ρ c) = (tgt r 0 c).val := by rw [hw]; exact dev8_eq r c
  -- the handshake
  iapply (signal_step m ρ r K c ⟨k0_dev1 c (wAt m ρ c), k0_dev1_lt c _ chk⟩ 0 (Fin.ext e1) _ (by decide) (.inl 1 :: .inl 2 :: .inl 3 :: copies)) $$ [HO Ht0 Hg0]
  · isplitr; · iexact Hc
    isplitl [HO]; · iexact HO
    isplitl [Ht0]; · iexact Ht0
    iexact Hg0
  iintro HO
  iapply (signal_step m ρ r K c ⟨k0_dev2 c, k0_dev2_lt c⟩ 1 (Fin.ext (dev2_eq r c)) _ (by decide) (.inl 2 :: .inl 3 :: copies)) $$ [HO Ht1 Hg1]
  · isplitr; · iexact Hc
    isplitl [HO]; · iexact HO
    isplitl [Ht1]; · iexact Ht1
    iexact Hg1
  iintro HO
  iapply (signal_step m ρ r K c ⟨k0_dev3 c, k0_dev3_lt c⟩ 2 (Fin.ext (dev3_eq r c)) _ (by decide) (.inl 3 :: copies)) $$ [HO Ht2 Hg2]
  · isplitr; · iexact Hc
    isplitl [HO]; · iexact HO
    isplitl [Ht2]; · iexact Ht2
    iexact Hg2
  iintro HO
  iapply (signal_step m ρ r K c ⟨k0_dev4 c, k0_dev4_lt c⟩ 3 (Fin.ext (dev4_eq r c)) _ (by decide) (copies)) $$ [HO Ht3 Hg3]
  · isplitr; · iexact Hc
    isplitl [HO]; · iexact HO
    isplitl [Ht3]; · iexact Ht3
    iexact Hg3
  iintro HO
  iapply (bar_wait m ρ r K c _ (by decide)) $$ [HO HcB HatB]
  · isplitr; · iexact Hc
    isplitl [HO]; · iexact HO
    isplitl [HcB]; · iexact HcB
    iexact HatB
  iintro ⟨HO, HatB, Hd⟩
  ihave Hr := (Entails.of_eq (bigSep_sep' Finset.univ (slot (F := F) r c) (dest r c)).symm) $$ [Hsl Hd]
  · isplitl [Hsl] <;> iassumption
  ihave Hr := (ready_16 r c) $$ Hr
  icases Hr with ⟨⟨R00, R01, R02, R03⟩, ⟨R10, R11, R12, R13⟩, ⟨R20, R21, R22, R23⟩, ⟨R30, R31, R32, R33⟩⟩
  -- the chunks to the z peer
  iapply (send0 m ρ r K c ⟨k0_dev5 c (wAt m ρ c), k0_dev5_lt c _ chk⟩ 0 (Fin.ext e5) (sL cc0_scratch0 0 inb_S4_S1_0) (sL cc0_scratch1 0 inb_S4_S1_0) rfl rfl (xL c 0#32 (k0_off1_inb c 0)) (oL c 0#32 (k0_off1_inb c 0)) rfl rfl
      [.inr (0, 1), .inr (0, 2), .inr (0, 3), .inr (1, 0), .inr (2, 0), .inr (3, 0), .inr (1, 1), .inr (2, 1), .inr (3, 1), .inr (1, 2), .inr (2, 2), .inr (3, 2), .inr (1, 3), .inr (2, 3), .inr (3, 3)]) $$ [HO R00 X0]
  · isplitr; · iexact Hc
    isplitl [HO]; · iexact HO
    isplitl [R00]; · iexact R00
    iexact X0
  iintro ⟨HO, R00⟩
  iapply (send0 m ρ r K c ⟨k0_dev6 c (wAt m ρ c), k0_dev6_lt c _ chk⟩ 1 (Fin.ext e6) (sL cc0_scratch0 1 inb_S4_S1_1) (sL cc0_scratch1 1 inb_S4_S1_1) rfl rfl (xL c 128#32 (k0_off1_inb c 1)) (oL c 128#32 (k0_off1_inb c 1)) rfl rfl
      [.inr (0, 2), .inr (0, 3), .inr (1, 0), .inr (2, 0), .inr (3, 0), .inr (1, 1), .inr (2, 1), .inr (3, 1), .inr (1, 2), .inr (2, 2), .inr (3, 2), .inr (1, 3), .inr (2, 3), .inr (3, 3)]) $$ [HO R01 X1]
  · isplitr; · iexact Hc
    isplitl [HO]; · iexact HO
    isplitl [R01]; · iexact R01
    iexact X1
  iintro ⟨HO, R01⟩
  iapply (send0 m ρ r K c ⟨k0_dev7 c (wAt m ρ c), k0_dev7_lt c _ chk⟩ 2 (Fin.ext e7) (sL cc0_scratch0 2 inb_S4_S1_2) (sL cc0_scratch1 2 inb_S4_S1_2) rfl rfl (xL c 256#32 (k0_off1_inb c 2)) (oL c 256#32 (k0_off1_inb c 2)) rfl rfl
      [.inr (0, 3), .inr (1, 0), .inr (2, 0), .inr (3, 0), .inr (1, 1), .inr (2, 1), .inr (3, 1), .inr (1, 2), .inr (2, 2), .inr (3, 2), .inr (1, 3), .inr (2, 3), .inr (3, 3)]) $$ [HO R02 X2]
  · isplitr; · iexact Hc
    isplitl [HO]; · iexact HO
    isplitl [R02]; · iexact R02
    iexact X2
  iintro ⟨HO, R02⟩
  iapply (send0 m ρ r K c ⟨k0_dev8 c (wAt m ρ c), k0_dev8_lt c _ chk⟩ 3 (Fin.ext e8) (sL cc0_scratch0 3 inb_S4_S1_3) (sL cc0_scratch1 3 inb_S4_S1_3) rfl rfl (xL c 384#32 (k0_off1_inb c 3)) (oL c 384#32 (k0_off1_inb c 3)) rfl rfl
      [.inr (1, 0), .inr (2, 0), .inr (3, 0), .inr (1, 1), .inr (2, 1), .inr (3, 1), .inr (1, 2), .inr (2, 2), .inr (3, 2), .inr (1, 3), .inr (2, 3), .inr (3, 3)]) $$ [HO R03 X3]
  · isplitr; · iexact Hc
    isplitl [HO]; · iexact HO
    isplitl [R03]; · iexact R03
    iexact X3
  iintro ⟨HO, R03⟩
  -- chunk 0 is in: its three relays
  iapply (wait2 m ρ r K c (0, 0) (sL cc0_scratch0 0 inb_S4_S1_0) (sL cc0_scratch1 0 inb_S4_S1_0) rfl rfl (oL c 0#32 (k0_off1_inb c 0)) (xL c 0#32 (k0_off1_inb c 0)) (xL c 0#32 (k0_off1_inb c 0)) (oL c 0#32 (k0_off1_inb c 0)) rfl rfl
      [.inr (1, 0), .inr (2, 0), .inr (3, 0), .inr (1, 1), .inr (2, 1), .inr (3, 1), .inr (1, 2), .inr (2, 2), .inr (3, 2), .inr (1, 3), .inr (2, 3), .inr (3, 3)] (by decide) (by decide)) $$ [HO R00]
  · isplitr; · iexact Hc
    isplitl [HO]; · iexact HO
    iexact R00
  iintro ⟨HO, R00, X0, D00⟩
  ihave D00 := (shares m ρ r c 0).1 $$ D00
  icases D00 with ⟨S10, S20, S30⟩
  iapply (sendR m ρ r K 1 (by decide) c ⟨k0_dev9 c, k0_dev9_lt c⟩ 0 (Fin.ext (dev9_eq r c)) (sL cc0_scratch2 0 inb_S4_S1_0) (sL cc0_scratch3 0 inb_S4_S1_0) rfl rfl (oL c 0#32 (k0_off1_inb c 0)) (oL c 0#32 (k0_off1_inb c 0)) rfl rfl
      [.inr (2, 0), .inr (3, 0), .inr (1, 1), .inr (2, 1), .inr (3, 1), .inr (1, 2), .inr (2, 2), .inr (3, 2), .inr (1, 3), .inr (2, 3), .inr (3, 3)]) $$ [HO R10 S10]
  · isplitr; · iexact Hc
    isplitl [HO]; · iexact HO
    isplitl [R10]; · iexact R10
    iexact S10
  iintro ⟨HO, R10⟩
  iapply (sendR m ρ r K 2 (by decide) c ⟨k0_dev10 c, k0_dev10_lt c⟩ 0 (Fin.ext (dev10_eq r c)) (sL cc0_scratch4 0 inb_S4_S1_0) (sL cc0_scratch5 0 inb_S4_S1_0) rfl rfl (oL c 0#32 (k0_off1_inb c 0)) (oL c 0#32 (k0_off1_inb c 0)) rfl rfl
      [.inr (3, 0), .inr (1, 1), .inr (2, 1), .inr (3, 1), .inr (1, 2), .inr (2, 2), .inr (3, 2), .inr (1, 3), .inr (2, 3), .inr (3, 3)]) $$ [HO R20 S20]
  · isplitr; · iexact Hc
    isplitl [HO]; · iexact HO
    isplitl [R20]; · iexact R20
    iexact S20
  iintro ⟨HO, R20⟩
  iapply (sendR m ρ r K 3 (by decide) c ⟨k0_dev11 c, k0_dev11_lt c⟩ 0 (Fin.ext (dev11_eq r c)) (sL cc0_scratch6 0 inb_S4_S1_0) (sL cc0_scratch7 0 inb_S4_S1_0) rfl rfl (oL c 0#32 (k0_off1_inb c 0)) (oL c 0#32 (k0_off1_inb c 0)) rfl rfl
      [.inr (1, 1), .inr (2, 1), .inr (3, 1), .inr (1, 2), .inr (2, 2), .inr (3, 2), .inr (1, 3), .inr (2, 3), .inr (3, 3)]) $$ [HO R30 S30]
  · isplitr; · iexact Hc
    isplitl [HO]; · iexact HO
    isplitl [R30]; · iexact R30
    iexact S30
  iintro ⟨HO, R30⟩
  -- chunk 1 is in: its three relays
  iapply (wait2 m ρ r K c (0, 1) (sL cc0_scratch0 1 inb_S4_S1_1) (sL cc0_scratch1 1 inb_S4_S1_1) rfl rfl (oL c 128#32 (k0_off1_inb c 1)) (xL c 128#32 (k0_off1_inb c 1)) (xL c 128#32 (k0_off1_inb c 1)) (oL c 128#32 (k0_off1_inb c 1)) rfl rfl
      [.inr (1, 1), .inr (2, 1), .inr (3, 1), .inr (1, 2), .inr (2, 2), .inr (3, 2), .inr (1, 3), .inr (2, 3), .inr (3, 3)] (by decide) (by decide)) $$ [HO R01]
  · isplitr; · iexact Hc
    isplitl [HO]; · iexact HO
    iexact R01
  iintro ⟨HO, R01, X1, D01⟩
  ihave D01 := (shares m ρ r c 1).1 $$ D01
  icases D01 with ⟨S11, S21, S31⟩
  iapply (sendR m ρ r K 1 (by decide) c ⟨k0_dev12 c, k0_dev12_lt c⟩ 1 (Fin.ext (dev12_eq r c)) (sL cc0_scratch2 1 inb_S4_S1_1) (sL cc0_scratch3 1 inb_S4_S1_1) rfl rfl (oL c 128#32 (k0_off1_inb c 1)) (oL c 128#32 (k0_off1_inb c 1)) rfl rfl
      [.inr (2, 1), .inr (3, 1), .inr (1, 2), .inr (2, 2), .inr (3, 2), .inr (1, 3), .inr (2, 3), .inr (3, 3)]) $$ [HO R11 S11]
  · isplitr; · iexact Hc
    isplitl [HO]; · iexact HO
    isplitl [R11]; · iexact R11
    iexact S11
  iintro ⟨HO, R11⟩
  iapply (sendR m ρ r K 2 (by decide) c ⟨k0_dev13 c, k0_dev13_lt c⟩ 1 (Fin.ext (dev13_eq r c)) (sL cc0_scratch4 1 inb_S4_S1_1) (sL cc0_scratch5 1 inb_S4_S1_1) rfl rfl (oL c 128#32 (k0_off1_inb c 1)) (oL c 128#32 (k0_off1_inb c 1)) rfl rfl
      [.inr (3, 1), .inr (1, 2), .inr (2, 2), .inr (3, 2), .inr (1, 3), .inr (2, 3), .inr (3, 3)]) $$ [HO R21 S21]
  · isplitr; · iexact Hc
    isplitl [HO]; · iexact HO
    isplitl [R21]; · iexact R21
    iexact S21
  iintro ⟨HO, R21⟩
  iapply (sendR m ρ r K 3 (by decide) c ⟨k0_dev14 c, k0_dev14_lt c⟩ 1 (Fin.ext (dev14_eq r c)) (sL cc0_scratch6 1 inb_S4_S1_1) (sL cc0_scratch7 1 inb_S4_S1_1) rfl rfl (oL c 128#32 (k0_off1_inb c 1)) (oL c 128#32 (k0_off1_inb c 1)) rfl rfl
      [.inr (1, 2), .inr (2, 2), .inr (3, 2), .inr (1, 3), .inr (2, 3), .inr (3, 3)]) $$ [HO R31 S31]
  · isplitr; · iexact Hc
    isplitl [HO]; · iexact HO
    isplitl [R31]; · iexact R31
    iexact S31
  iintro ⟨HO, R31⟩
  -- chunk 2 is in: its three relays
  iapply (wait2 m ρ r K c (0, 2) (sL cc0_scratch0 2 inb_S4_S1_2) (sL cc0_scratch1 2 inb_S4_S1_2) rfl rfl (oL c 256#32 (k0_off1_inb c 2)) (xL c 256#32 (k0_off1_inb c 2)) (xL c 256#32 (k0_off1_inb c 2)) (oL c 256#32 (k0_off1_inb c 2)) rfl rfl
      [.inr (1, 2), .inr (2, 2), .inr (3, 2), .inr (1, 3), .inr (2, 3), .inr (3, 3)] (by decide) (by decide)) $$ [HO R02]
  · isplitr; · iexact Hc
    isplitl [HO]; · iexact HO
    iexact R02
  iintro ⟨HO, R02, X2, D02⟩
  ihave D02 := (shares m ρ r c 2).1 $$ D02
  icases D02 with ⟨S12, S22, S32⟩
  iapply (sendR m ρ r K 1 (by decide) c ⟨k0_dev15 c, k0_dev15_lt c⟩ 2 (Fin.ext (dev15_eq r c)) (sL cc0_scratch2 2 inb_S4_S1_2) (sL cc0_scratch3 2 inb_S4_S1_2) rfl rfl (oL c 256#32 (k0_off1_inb c 2)) (oL c 256#32 (k0_off1_inb c 2)) rfl rfl
      [.inr (2, 2), .inr (3, 2), .inr (1, 3), .inr (2, 3), .inr (3, 3)]) $$ [HO R12 S12]
  · isplitr; · iexact Hc
    isplitl [HO]; · iexact HO
    isplitl [R12]; · iexact R12
    iexact S12
  iintro ⟨HO, R12⟩
  iapply (sendR m ρ r K 2 (by decide) c ⟨k0_dev16 c, k0_dev16_lt c⟩ 2 (Fin.ext (dev16_eq r c)) (sL cc0_scratch4 2 inb_S4_S1_2) (sL cc0_scratch5 2 inb_S4_S1_2) rfl rfl (oL c 256#32 (k0_off1_inb c 2)) (oL c 256#32 (k0_off1_inb c 2)) rfl rfl
      [.inr (3, 2), .inr (1, 3), .inr (2, 3), .inr (3, 3)]) $$ [HO R22 S22]
  · isplitr; · iexact Hc
    isplitl [HO]; · iexact HO
    isplitl [R22]; · iexact R22
    iexact S22
  iintro ⟨HO, R22⟩
  iapply (sendR m ρ r K 3 (by decide) c ⟨k0_dev17 c, k0_dev17_lt c⟩ 2 (Fin.ext (dev17_eq r c)) (sL cc0_scratch6 2 inb_S4_S1_2) (sL cc0_scratch7 2 inb_S4_S1_2) rfl rfl (oL c 256#32 (k0_off1_inb c 2)) (oL c 256#32 (k0_off1_inb c 2)) rfl rfl
      [.inr (1, 3), .inr (2, 3), .inr (3, 3)]) $$ [HO R32 S32]
  · isplitr; · iexact Hc
    isplitl [HO]; · iexact HO
    isplitl [R32]; · iexact R32
    iexact S32
  iintro ⟨HO, R32⟩
  -- chunk 3 is in: its three relays
  iapply (wait2 m ρ r K c (0, 3) (sL cc0_scratch0 3 inb_S4_S1_3) (sL cc0_scratch1 3 inb_S4_S1_3) rfl rfl (oL c 384#32 (k0_off1_inb c 3)) (xL c 384#32 (k0_off1_inb c 3)) (xL c 384#32 (k0_off1_inb c 3)) (oL c 384#32 (k0_off1_inb c 3)) rfl rfl
      [.inr (1, 3), .inr (2, 3), .inr (3, 3)] (by decide) (by decide)) $$ [HO R03]
  · isplitr; · iexact Hc
    isplitl [HO]; · iexact HO
    iexact R03
  iintro ⟨HO, R03, X3, D03⟩
  ihave D03 := (shares m ρ r c 3).1 $$ D03
  icases D03 with ⟨S13, S23, S33⟩
  iapply (sendR m ρ r K 1 (by decide) c ⟨k0_dev18 c, k0_dev18_lt c⟩ 3 (Fin.ext (dev18_eq r c)) (sL cc0_scratch2 3 inb_S4_S1_3) (sL cc0_scratch3 3 inb_S4_S1_3) rfl rfl (oL c 384#32 (k0_off1_inb c 3)) (oL c 384#32 (k0_off1_inb c 3)) rfl rfl
      [.inr (2, 3), .inr (3, 3)]) $$ [HO R13 S13]
  · isplitr; · iexact Hc
    isplitl [HO]; · iexact HO
    isplitl [R13]; · iexact R13
    iexact S13
  iintro ⟨HO, R13⟩
  iapply (sendR m ρ r K 2 (by decide) c ⟨k0_dev19 c, k0_dev19_lt c⟩ 3 (Fin.ext (dev19_eq r c)) (sL cc0_scratch4 3 inb_S4_S1_3) (sL cc0_scratch5 3 inb_S4_S1_3) rfl rfl (oL c 384#32 (k0_off1_inb c 3)) (oL c 384#32 (k0_off1_inb c 3)) rfl rfl
      [.inr (3, 3)]) $$ [HO R23 S23]
  · isplitr; · iexact Hc
    isplitl [HO]; · iexact HO
    isplitl [R23]; · iexact R23
    iexact S23
  iintro ⟨HO, R23⟩
  iapply (sendR m ρ r K 3 (by decide) c ⟨k0_dev20 c, k0_dev20_lt c⟩ 3 (Fin.ext (dev20_eq r c)) (sL cc0_scratch6 3 inb_S4_S1_3) (sL cc0_scratch7 3 inb_S4_S1_3) rfl rfl (oL c 384#32 (k0_off1_inb c 3)) (oL c 384#32 (k0_off1_inb c 3)) rfl rfl
      []) $$ [HO R33 S33]
  · isplitr; · iexact Hc
    isplitl [HO]; · iexact HO
    isplitl [R33]; · iexact R33
    iexact S33
  iintro ⟨HO, R33⟩
  -- the relays' waits
  iapply (wait2 m ρ r K c (1, 0) (sL cc0_scratch2 0 inb_S4_S1_0) (sL cc0_scratch3 0 inb_S4_S1_0) rfl rfl (oL c 0#32 (k0_off1_inb c 0)) (oL c 0#32 (k0_off1_inb c 0)) (oL c 0#32 (k0_off1_inb c 0)) (oL c 0#32 (k0_off1_inb c 0)) rfl rfl
      [] (by decide) (by decide)) $$ [HO R10]
  · isplitr; · iexact Hc
    isplitl [HO]; · iexact HO
    iexact R10
  iintro ⟨HO, R10, S10, D10⟩
  iapply (wait2 m ρ r K c (1, 1) (sL cc0_scratch2 1 inb_S4_S1_1) (sL cc0_scratch3 1 inb_S4_S1_1) rfl rfl (oL c 128#32 (k0_off1_inb c 1)) (oL c 128#32 (k0_off1_inb c 1)) (oL c 128#32 (k0_off1_inb c 1)) (oL c 128#32 (k0_off1_inb c 1)) rfl rfl
      [] (by decide) (by decide)) $$ [HO R11]
  · isplitr; · iexact Hc
    isplitl [HO]; · iexact HO
    iexact R11
  iintro ⟨HO, R11, S11, D11⟩
  iapply (wait2 m ρ r K c (1, 2) (sL cc0_scratch2 2 inb_S4_S1_2) (sL cc0_scratch3 2 inb_S4_S1_2) rfl rfl (oL c 256#32 (k0_off1_inb c 2)) (oL c 256#32 (k0_off1_inb c 2)) (oL c 256#32 (k0_off1_inb c 2)) (oL c 256#32 (k0_off1_inb c 2)) rfl rfl
      [] (by decide) (by decide)) $$ [HO R12]
  · isplitr; · iexact Hc
    isplitl [HO]; · iexact HO
    iexact R12
  iintro ⟨HO, R12, S12, D12⟩
  iapply (wait2 m ρ r K c (1, 3) (sL cc0_scratch2 3 inb_S4_S1_3) (sL cc0_scratch3 3 inb_S4_S1_3) rfl rfl (oL c 384#32 (k0_off1_inb c 3)) (oL c 384#32 (k0_off1_inb c 3)) (oL c 384#32 (k0_off1_inb c 3)) (oL c 384#32 (k0_off1_inb c 3)) rfl rfl
      [] (by decide) (by decide)) $$ [HO R13]
  · isplitr; · iexact Hc
    isplitl [HO]; · iexact HO
    iexact R13
  iintro ⟨HO, R13, S13, D13⟩
  iapply (wait2 m ρ r K c (2, 0) (sL cc0_scratch4 0 inb_S4_S1_0) (sL cc0_scratch5 0 inb_S4_S1_0) rfl rfl (oL c 0#32 (k0_off1_inb c 0)) (oL c 0#32 (k0_off1_inb c 0)) (oL c 0#32 (k0_off1_inb c 0)) (oL c 0#32 (k0_off1_inb c 0)) rfl rfl
      [] (by decide) (by decide)) $$ [HO R20]
  · isplitr; · iexact Hc
    isplitl [HO]; · iexact HO
    iexact R20
  iintro ⟨HO, R20, S20, D20⟩
  iapply (wait2 m ρ r K c (2, 1) (sL cc0_scratch4 1 inb_S4_S1_1) (sL cc0_scratch5 1 inb_S4_S1_1) rfl rfl (oL c 128#32 (k0_off1_inb c 1)) (oL c 128#32 (k0_off1_inb c 1)) (oL c 128#32 (k0_off1_inb c 1)) (oL c 128#32 (k0_off1_inb c 1)) rfl rfl
      [] (by decide) (by decide)) $$ [HO R21]
  · isplitr; · iexact Hc
    isplitl [HO]; · iexact HO
    iexact R21
  iintro ⟨HO, R21, S21, D21⟩
  iapply (wait2 m ρ r K c (2, 2) (sL cc0_scratch4 2 inb_S4_S1_2) (sL cc0_scratch5 2 inb_S4_S1_2) rfl rfl (oL c 256#32 (k0_off1_inb c 2)) (oL c 256#32 (k0_off1_inb c 2)) (oL c 256#32 (k0_off1_inb c 2)) (oL c 256#32 (k0_off1_inb c 2)) rfl rfl
      [] (by decide) (by decide)) $$ [HO R22]
  · isplitr; · iexact Hc
    isplitl [HO]; · iexact HO
    iexact R22
  iintro ⟨HO, R22, S22, D22⟩
  iapply (wait2 m ρ r K c (2, 3) (sL cc0_scratch4 3 inb_S4_S1_3) (sL cc0_scratch5 3 inb_S4_S1_3) rfl rfl (oL c 384#32 (k0_off1_inb c 3)) (oL c 384#32 (k0_off1_inb c 3)) (oL c 384#32 (k0_off1_inb c 3)) (oL c 384#32 (k0_off1_inb c 3)) rfl rfl
      [] (by decide) (by decide)) $$ [HO R23]
  · isplitr; · iexact Hc
    isplitl [HO]; · iexact HO
    iexact R23
  iintro ⟨HO, R23, S23, D23⟩
  iapply (wait2 m ρ r K c (3, 0) (sL cc0_scratch6 0 inb_S4_S1_0) (sL cc0_scratch7 0 inb_S4_S1_0) rfl rfl (oL c 0#32 (k0_off1_inb c 0)) (oL c 0#32 (k0_off1_inb c 0)) (oL c 0#32 (k0_off1_inb c 0)) (oL c 0#32 (k0_off1_inb c 0)) rfl rfl
      [] (by decide) (by decide)) $$ [HO R30]
  · isplitr; · iexact Hc
    isplitl [HO]; · iexact HO
    iexact R30
  iintro ⟨HO, R30, S30, D30⟩
  iapply (wait2 m ρ r K c (3, 1) (sL cc0_scratch6 1 inb_S4_S1_1) (sL cc0_scratch7 1 inb_S4_S1_1) rfl rfl (oL c 128#32 (k0_off1_inb c 1)) (oL c 128#32 (k0_off1_inb c 1)) (oL c 128#32 (k0_off1_inb c 1)) (oL c 128#32 (k0_off1_inb c 1)) rfl rfl
      [] (by decide) (by decide)) $$ [HO R31]
  · isplitr; · iexact Hc
    isplitl [HO]; · iexact HO
    iexact R31
  iintro ⟨HO, R31, S31, D31⟩
  iapply (wait2 m ρ r K c (3, 2) (sL cc0_scratch6 2 inb_S4_S1_2) (sL cc0_scratch7 2 inb_S4_S1_2) rfl rfl (oL c 256#32 (k0_off1_inb c 2)) (oL c 256#32 (k0_off1_inb c 2)) (oL c 256#32 (k0_off1_inb c 2)) (oL c 256#32 (k0_off1_inb c 2)) rfl rfl
      [] (by decide) (by decide)) $$ [HO R32]
  · isplitr; · iexact Hc
    isplitl [HO]; · iexact HO
    iexact R32
  iintro ⟨HO, R32, S32, D32⟩
  iapply (wait2 m ρ r K c (3, 3) (sL cc0_scratch6 3 inb_S4_S1_3) (sL cc0_scratch7 3 inb_S4_S1_3) rfl rfl (oL c 384#32 (k0_off1_inb c 3)) (oL c 384#32 (k0_off1_inb c 3)) (oL c 384#32 (k0_off1_inb c 3)) (oL c 384#32 (k0_off1_inb c 3)) rfl rfl
      [] (by decide) (by decide)) $$ [HO R33]
  · isplitr; · iexact Hc
    isplitl [HO]; · iexact HO
    iexact R33
  iintro ⟨HO, R33, S33, D33⟩
  -- every cell closes
  imod (close_bar m ρ r K c) $$ [HatB] with HzB
  · isplitr; · iexact Hc
    iexact HatB
  ihave Hov := (over_16 c) $$ [R00 R01 R02 R03 R10 R11 R12 R13 R20 R21 R22 R23 R30 R31 R32 R33]
  · isplitl [R00 R01 R02 R03]
    · isplitl [R00]; · iexact R00
      isplitl [R01]; · iexact R01
      isplitl [R02]; · iexact R02
      iexact R03
    isplitl [R10 R11 R12 R13]
    · isplitl [R10]; · iexact R10
      isplitl [R11]; · iexact R11
      isplitl [R12]; · iexact R12
      iexact R13
    isplitl [R20 R21 R22 R23]
    · isplitl [R20]; · iexact R20
      isplitl [R21]; · iexact R21
      isplitl [R22]; · iexact R22
      iexact R23
    isplitl [R30]; · iexact R30
    isplitl [R31]; · iexact R31
    isplitl [R32]; · iexact R32
    iexact R33
  imod (close_all m ρ r K c) $$ [Hov] with Hz
  · isplitr; · iexact Hc
    iexact Hov
  -- the buffers whole again
  ihave D00 := (shares m ρ r c 0).2 $$ [S10 S20 S30]
  · isplitl [S10]; · iexact S10
    isplitl [S20] <;> iassumption
  ihave D01 := (shares m ρ r c 1).2 $$ [S11 S21 S31]
  · isplitl [S11]; · iexact S11
    isplitl [S21] <;> iassumption
  ihave D02 := (shares m ρ r c 2).2 $$ [S12 S22 S32]
  · isplitl [S12]; · iexact S12
    isplitl [S22] <;> iassumption
  ihave D03 := (shares m ρ r c 3).2 $$ [S13 S23 S33]
  · isplitl [S13]; · iexact S13
    isplitl [S23] <;> iassumption
  ihave Hout := (dst_16 m ρ r c) $$ [D00 D01 D02 D03 D10 D11 D12 D13 D20 D21 D22 D23 D30 D31 D32 D33]
  · isplitl [D00 D01 D02 D03]
    · isplitl [D00]; · iexact D00
      isplitl [D01]; · iexact D01
      isplitl [D02]; · iexact D02
      iexact D03
    isplitl [D10 D11 D12 D13]
    · isplitl [D10]; · iexact D10
      isplitl [D11]; · iexact D11
      isplitl [D12]; · iexact D12
      iexact D13
    isplitl [D20 D21 D22 D23]
    · isplitl [D20]; · iexact D20
      isplitl [D21]; · iexact D21
      isplitl [D22]; · iexact D22
      iexact D23
    isplitl [D30]; · iexact D30
    isplitl [D31]; · iexact D31
    isplitl [D32]; · iexact D32
    iexact D33
  ihave Hout := (out_join m ρ r c) $$ Hout
  ihave Hx := (Entails.of_eq (x_parts m ρ r c).symm) $$ [X0 X1 X2 X3 HxR]
  · isplitl [X0 X1 X2 X3]
    · isplitl [X0]; · iexact X0
      isplitl [X1]; · iexact X1
      isplitl [X2] <;> iassumption
    iexact HxR
  rw [wp_ret]; imodintro
  iapply Hk
  unfold bodyPost Φ₁ Dat.owesAt Pipeline.owesWithin ow
  rw [show (dats m ρ r 0 c).owed t0_0.succ = 0 from rfl]
  isplitl [Hz HzB]
  · isplitl [Hz] <;> iassumption
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hp]
  · iexists _; isplitr; · (ipureintro; rfl)
    iexact Hp
  iexists _; isplitr; · (ipureintro; rfl)
  iexact Hout

end Cert.KProof

end
-- ==== Proof.Launch.lean ====
/-
# The run

The launch deals every device its cells and duty tokens; the tokens travel once to the devices that pay with them; every device
runs the body; the result arrays are read off the final state.
-/
module

public import proofs.«01_k».proof.Proof.Body
public import Idealize.ShloMosaic.Lib.Pipeline.BigSepL
public import Idealize.ShloMosaic.Lib.Pipeline.CollectiveSegs
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (r : Fin 4)

def bodyPre' (c : Dev nD) : sProp 𝕄 :=
  iprop(Φ₀ m ρ r c
    ∗ (dats m ρ r 0 c).owesAt () t0_0.castSucc
    ∗ (∃ d, stg c cc0_stg0_0 ((dats m ρ r 0 c).before (0 : Fin 3) t0_0 d))
    ∗ (∃ d, stg c cc0_stg1_0 ((dats m ρ r 0 c).before (1 : Fin 3) t0_0 d))
    ∗ (∃ d, stg c cc0_stg2_0 ((dats m ρ r 0 c).before (2 : Fin 3) t0_0 d)))

set_option maxRecDepth 4000 in
theorem body_obligation (hpi : ∀ c, wAt m ρ c = w0 r) (c : Dev nD) : BodyObligation (dats (F := F) m ρ r 0 c) (defs₀ (F := F)) 𝒱₀ () Set.univ := fun t => by
  rw [fin_N0 t]
  rw [bigSep_W, bigSep_W]
  simp only [owns_whole_eq]
  show bodyPre' m ρ r c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) cc0_scratch0 cc0_scratch1 cc0_scratch2 cc0_scratch3 cc0_scratch4 cc0_scratch5 cc0_scratch6 cc0_scratch7)
    (fun _ => bodyPost m ρ r c)
  unfold bodyPre' Φ₀
  iintro ⟨⟨%K, #Hc, Hs⟩, Ho, Hx, Hp, Hout⟩
  iapply (sound_body m ρ r K hpi c fun _ => bodyPost m ρ r c)
  unfold bodyPre
  isplitr []
  · isplitl [Hs]
    · isplitr; · iexact Hc
      iexact Hs
    isplitl [Ho]; · iexact Ho
    isplitl [Hx]; · iexact Hx
    isplitl [Hp] <;> iassumption
  · iintro H; iexact H

/-! ## The launch -/

theorem ownSemFacts : Pipeline.OwnSemFacts cfg0.spec osem := by decide

theorem share_eq (c : Dev nD) (w : Fin cfg0.W) : (dats m ρ r 0 c).share w = fullShare := by unfold Dat.share; split <;> rfl

theorem csem_inj : Function.Injective csem := by
  rintro (a | a) (b | b) h
  · rfl
  · cases h
  · cases h
  · exact congrArg Sum.inr (dsem_inj (SemLoc.dma.inj h))

theorem kcell_injective : Function.Injective kcell := by
  rintro ⟨c, k⟩ ⟨c', k'⟩ h
  have h1 : c = c' := congrArg (fun g : GSem nD τ sig => g.1.1) h
  subst h1
  have h2 : csem k = csem k' := congrArg Prod.snd h
  rw [csem_inj h2]
def kcells : Finset (GSem nD τ sig) := Finset.univ.map ⟨kcell, kcell_injective⟩

/-- A device's own cells' duty tokens. -/
abbrev TI : Type := Fin 4 ⊕ CI
abbrev tokOf (ct : Dev nD × TI) : GSem nD τ sig × ℕ × Fin 4 := match ct.2 with
  | .inl k => (barCell ct.1, 0, k)
  | .inr i => (dCell ct.1 i, 0, 0)
theorem tokOf_injective : Function.Injective tokOf := by
  rintro ⟨c, a | a⟩ ⟨c', b | b⟩ h
  · have h1 : c = c' := congrArg (fun x : GSem nD τ sig × ℕ × Fin 4 => x.1.1.1) h
    have h2 : a = b := congrArg (fun x : GSem nD τ sig × ℕ × Fin 4 => x.2.2) h
    rw [h1, h2]
  · have h2 : (SemLoc.reg barS : SemLoc sig) = .dma (dsem b) := congrArg (fun x : GSem nD τ sig × ℕ × Fin 4 => x.1.2) h
    cases h2
  · have h2 : (SemLoc.dma (dsem a) : SemLoc sig) = .reg barS := congrArg (fun x : GSem nD τ sig × ℕ × Fin 4 => x.1.2) h
    cases h2
  · have h1 : c = c' := congrArg (fun x : GSem nD τ sig × ℕ × Fin 4 => x.1.1.1) h
    have h2 : (SemLoc.dma (dsem a) : SemLoc sig) = .dma (dsem b) := congrArg (fun x : GSem nD τ sig × ℕ × Fin 4 => x.1.2) h
    rw [h1, dsem_inj (SemLoc.dma.inj h2)]
def ktoks : Finset (GSem nD τ sig × ℕ × Fin 4) := Finset.univ.map ⟨tokOf, tokOf_injective⟩

def u₀ : UU := (initOf (Pipeline.cells cfgs cellOf_inj) (Pipeline.launchToks cfgs cellOf_inj), initOf kcells ktoks)

def toks (c : Dev nD) : sProp 𝕄 :=
  iprop((bigSep Finset.univ fun k : Fin 4 => dutyTok ER (barCell c) 0 k) ∗ bigSep Finset.univ fun i : CI => dutyTok ER (dCell c i) 0 (0 : Fin 4))

/-- What the launch element deals device `c`. -/
def G (c : Dev nD) : sProp 𝕄 :=
  iprop((bigSep Finset.univ fun k : KI => roundState ER (rd m ρ r) (kcell (c, k)) 0)
    ∗ (bigSep Finset.univ fun k : KI => iprop(atPos ER (kcell (c, k)) 0 ∅ 0 ∗ reached ER (kcell (c, k)) 0)) ∗ toks c)

/-- What stays with device `c`: its positions, and the tokens of the duties it pays. -/
def payToks (c : Dev nD) : sProp 𝕄 :=
  iprop((bigSep Finset.univ fun k : Fin 4 => dutyTok ER (barCell (org r k c)) 0 k)
    ∗ bigSep Finset.univ fun b : BI16 => iprop(dutyTok ER (dCell c (b.1, false, b.2)) 0 (0 : Fin 4) ∗ dutyTok ER (dCell (tgt r b.1 c) (b.1, true, b.2)) 0 (0 : Fin 4)))
def linear (c : Dev nD) : sProp 𝕄 := iprop((bigSep Finset.univ fun k : KI => atPos ER (kcell (c, k)) 0 ∅ 0) ∗ payToks r c)
def G' (c : Dev nD) : sProp 𝕄 := iprop(∃ K, records m ρ r K ∗ linear r c)

omit [FloatOps F] in
theorem fund_cells : BI.own (ER (initOf kcells ktoks)) ⊢ (|==> bigSep Finset.univ (G m ρ r) : sProp 𝕄) := by
  have hX (Φ : GSem nD τ sig → sProp 𝕄) : bigSep kcells Φ = bigSep Finset.univ fun c : Dev nD => bigSep Finset.univ fun k : KI => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => by unfold toks; rw [bigSep_univ_sum]; rfl
  iintro HX
  imod (Rounds.fund ER (rd m ρ r) kcells ktoks) $$ HX with ⟨Hst, Hr, Hat, Htok⟩
  imodintro
  ihave Hst' := (Entails.of_eq (hX fun g => roundState ER (rd m ρ r) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_KI (Φ : KI → sProp 𝕄) : bigSep Finset.univ Φ = iprop(Φ (.inl ()) ∗ bigSep Finset.univ fun i : CI => Φ (.inr i)) := by
  rw [bigSep_univ_sum, bigSep_univ_eq_bigSepL [()] (by decide) (by decide)]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : CI => semVal (dCell c i) 0 := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, bigSep_KI]
  iintro ⟨HS, HB⟩
  isplitl [HB] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ r c)
      ⊢ |={Set.univ}=> iprop((bigSep Finset.univ fun k => iprop(∃ κ : ℕ, cellInv ER (rd m ρ r) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (rd m ρ r) (kcell (c, k)) 0)
      ⊢ (|={Set.univ}=> bigSep Finset.univ fun k => iprop(∃ κ : ℕ, cellInv ER (rd m ρ r) κ (kcell (c, k))) : sProp 𝕄) from by
        rw [← bigSep_sep']
        exact (bigSep_mono fun k _ => (Rounds.body_intro ER (rd m ρ r) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Every token to the device that pays with it. -/
theorem toks_around : (bigSep Finset.univ fun c : Dev nD => (toks c : sProp 𝕄)) ⊢ bigSep Finset.univ fun c : Dev nD => payToks r c := by
  unfold toks payToks
  rw [bigSep_sep', bigSep_sep']
  have hb : (bigSep Finset.univ fun c : Dev nD => bigSep Finset.univ fun k : Fin 4 => (dutyTok ER (barCell c) 0 k : sProp 𝕄))
      = bigSep Finset.univ fun c : Dev nD => bigSep Finset.univ fun k : Fin 4 => dutyTok ER (barCell (org r k c)) 0 k := by
    rw [bigSep_univ_comm (fun (c : Dev nD) (k : Fin 4) => (dutyTok ER (barCell c) 0 k : sProp 𝕄)),
      bigSep_univ_comm (fun (c : Dev nD) (k : Fin 4) => (dutyTok ER (barCell (org r k c)) 0 k : sProp 𝕄))]
    exact bigSep_congr fun k _ => bigSep_univ_equiv (route r k).symm (fun c : Dev nD => (dutyTok ER (barCell c) 0 k : sProp 𝕄))
  have hs : (bigSep Finset.univ fun c : Dev nD => bigSep Finset.univ fun i : CI => (dutyTok ER (dCell c i) 0 (0 : Fin 4) : sProp 𝕄))
      = bigSep Finset.univ fun c : Dev nD => bigSep Finset.univ fun b : BI16 =>
          iprop(dutyTok ER (dCell c (b.1, false, b.2)) 0 (0 : Fin 4) ∗ dutyTok ER (dCell (tgt r b.1 c) (b.1, true, b.2)) 0 (0 : Fin 4)) := by
    have h1 (c : Dev nD) := bigSep_CI (F := F) (fun i : CI => (dutyTok ER (dCell c i) 0 (0 : Fin 4) : sProp 𝕄))
    simp only [h1, bigSep_sep']
    refine congrArg₂ BI.sep rfl ?_
    rw [bigSep_univ_comm (fun (c : Dev nD) (b : BI16) => (dutyTok ER (dCell c (b.1, true, b.2)) 0 (0 : Fin 4) : sProp 𝕄)),
      bigSep_univ_comm (fun (c : Dev nD) (b : BI16) => (dutyTok ER (dCell (tgt r b.1 c) (b.1, true, b.2)) 0 (0 : Fin 4) : sProp 𝕄))]
    exact bigSep_congr fun b _ => bigSep_univ_equiv (route r b.1) (fun c : Dev nD => (dutyTok ER (dCell c (b.1, true, b.2)) 0 (0 : Fin 4) : sProp 𝕄))
  rw [hb, hs]

omit [FloatOps F] in
theorem g_intro (K : Dev nD × KI → ℕ) (c : Dev nD) : iprop(records m ρ r K ∗ linear r c) ⊢ G' m ρ r c := by
  unfold G'
  iintro H; iexists K; iexact H

omit [FloatOps F] in
theorem regroup :
    (bigSep Finset.univ fun c : Dev nD => iprop((bigSep Finset.univ fun k => iprop(∃ κ : ℕ, cellInv ER (rd m ρ r) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ r) := by
  rw [bigSep_sep', bigSep_sep', ← bigSep_univ_prod (fun ck : Dev nD × KI => iprop(∃ κ : ℕ, cellInv ER (rd m ρ r) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (rd m ρ r) κ (kcell ck) : sProp 𝕄))) $$ HI
  icases HK with ⟨%K, #HI⟩
  ihave Htk := (toks_around (F := F) r) $$ Htok
  iapply (bigSep_with_persistent (R := records m ρ r K) fun c _ => g_intro m ρ r K c)
  isplitr
  · unfold records; isplitl; · iexact HI
    iexact HR
  · iapply (Entails.of_eq (bigSep_sep' Finset.univ (fun c : Dev nD => bigSep Finset.univ fun k : KI => (atPos ER (kcell (c, k)) 0 ∅ 0 : sProp 𝕄)) (payToks r)).symm)
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ r c) : sProp 𝕄)
    ⊢ |={Set.univ}=> bigSep Finset.univ (G' m ρ r) :=
  ((bigSep_mono fun c _ => core_alloc m ρ r c).trans (bigSep_fupd _ _)).trans (BI.fupd_mono (regroup m ρ r))

/-! ### The launch credit -/

/-- The credit on device `c`'s own cell that the payment `x` of some device stands for. -/
def income (c : Dev nD) : Due → CellTallies nD τ sig Unit
  | .inl _ => tallyAt (barCell c) () 1
  | .inr b => tallyAt (dCell c (b.1, true, b.2)) () N

omit [FloatOps F] in
theorem launch_due (c : Dev nD) (x : Due) : (Pipeline.launchCred (fun d => dueTally r d x) c : sProp 𝕄) ⊢ cred (income c x) := by
  rcases x with k | b
  · exact Pipeline.launchCred_tallyAt (.reg barS) (org r k) (tgt r k) (org_tgt r k) (tgt_org r k) () 1 c
  · exact Pipeline.launchCred_tallyAt (.dma (dsem (b.1, true, b.2))) (tgt r b.1) (org r b.1) (tgt_org r b.1) (org_tgt r b.1) () N c

omit [FloatOps F] in
theorem launch_list (c : Dev nD) (l : List Due) : (Pipeline.launchCred (fun d => owedL r d l) c : sProp 𝕄) ⊢ bigSepL l fun x => cred (income c x) := by
  induction l with
  | nil => rw [bigSepL_nil]; exact Entails.of_eq (Pipeline.launchCred_zero c)
  | cons x l ih =>
    rw [bigSepL_cons']
    refine (Entails.of_eq (Pipeline.launchCred_add (fun d => owedL r d l) (fun d => dueTally r d x) c)).trans ?_
    iintro ⟨H1, H2⟩
    isplitl [H2]
    · iapply (launch_due r c x); iexact H2
    · iapply ih; iexact H1

/-- The copies of the kernel, in program order. -/
abbrev order : List BI16 :=
  [(0, 0), (0, 1), (0, 2), (0, 3), (1, 0), (2, 0), (3, 0), (1, 1), (2, 1), (3, 1), (1, 2), (2, 2), (3, 2), (1, 3), (2, 3), (3, 3)]

omit [FloatOps F] in
theorem join2 (g : GSem nD τ sig) (a b : ℕ) : iprop(cred (tallyAt g () a) ∗ cred (tallyAt g () b)) ⊢ (cred (tallyAt g () (a + b)) : sProp 𝕄) := by
  have h : (tallyAt g () (a + b) : CellTallies nD τ sig Unit) = tallyAt g () a + tallyAt g () b := (tallyAt_add ..).symm
  rw [h]; exact (cred_add _ _).2

omit [FloatOps F] in
theorem creds (c : Dev nD) : (Pipeline.launchCred (fun d => owedL r d dues) c : sProp 𝕄)
    ⊢ iprop(cred (tallyAt (barCell c) () 4) ∗ bigSep Finset.univ fun b : BI16 => cred (tallyAt (dCell c (b.1, true, b.2)) () N)) := by
  refine (launch_list r c dues).trans ?_
  rw [show dues = [.inl 0, .inl 1, .inl 2, .inl 3] ++ order.map Sum.inr from rfl, bigSepL_append, bigSepL_map,
    bigSep_univ_eq_bigSepL order (by decide) (by decide)]
  refine BI.sep_mono ?_ (Entails.refl _)
  rw [bigSepL_cons_cons, bigSepL_cons_cons, bigSepL_cons_cons, bigSepL_singleton]
  show iprop(cred (tallyAt (barCell c) () 1) ∗ cred (tallyAt (barCell c) () 1) ∗ cred (tallyAt (barCell c) () 1) ∗ cred (tallyAt (barCell c) () 1)) ⊢ _
  iintro ⟨H0, H1, H2, H3⟩
  ihave H := (join2 (F := F) (barCell c) 1 1) $$ [H0 H1]
  · isplitl [H0] <;> iassumption
  ihave H := (join2 (F := F) (barCell c) (1 + 1) 1) $$ [H H2]
  · isplitl [H] <;> iassumption
  iapply (join2 (F := F) (barCell c) (1 + 1 + 1) 1)
  isplitl [H] <;> iassumption

/-! ### The theorem's side conditions -/

omit [FloatOps F] in
theorem start_of (c : Dev nD) : iprop(linear r c ∗ cred (tallyAt (barCell c) () 4) ∗ bigSep Finset.univ fun b : BI16 => cred (tallyAt (dCell c (b.1, true, b.2)) () N))
    ⊢ (start r c : sProp 𝕄) := by
  unfold linear payToks start slot
  rw [bigSep_KI, bigSep_CI]
  simp only [bigSep_sep']
  iintro ⟨⟨⟨HB, HS, HR⟩, Ht, Hts, Htr⟩, Hc, Hcr⟩
  isplitl [HB]; · iexact HB
  isplitl [Hc]; · iexact Hc
  isplitl [Ht]; · iexact Ht
  isplitl [HS]; · iexact HS
  isplitl [HR]; · iexact HR
  isplitl [Hts]; · iexact Hts
  isplitl [Htr] <;> iassumption

omit [FloatOps F] in
theorem start_intro (c : Dev nD) :
    iprop(Pipeline.unscopedRestP Pipeline.Prefetch.none cfg0.spec c (fun b => m ((c : Thread nD τ).loc b)) ∗ levAts L lv
        ∗ Pipeline.launchCred (fun d => owedL r d dues) c ∗ prngReg c (ρ c) ∗ G' m ρ r c)
      ⊢ |={Set.univ}=> iprop(Φ₀ m ρ r c ∗ emp) := by
  iintro ⟨-, Hlev, Hcr, -, HG⟩
  ihave Hc := (creds (F := F) r c) $$ Hcr
  unfold G' Φ₀ ctx
  icases HG with ⟨%K, Hrec, Hlin⟩
  imodintro
  isplitl
  · iexists K
    isplitl [Hrec Hlev]
    · isplitl [Hrec] <;> iassumption
    iapply (start_of (F := F) r c)
    isplitl [Hlin] <;> iassumption
  · iempintro

theorem phi0_intro (c : Dev nD) :
    iprop(Φ₀ m ρ r c ∗ Pipeline.prefHeld Pipeline.Prefetch.none c (fun _ => fullShare.right) (fun k => k.elim0) ∗ Pipeline.scopedRest cfg0.spec c)
      ⊢ (dats m ρ r 0 c).Φ 0 := by
  rw [show (dats m ρ r 0 c).Φ 0 = Φ₀ m ρ r c from rfl]
  iintro ⟨Hs, -, -⟩
  iexact Hs

theorem phi1_exit (c : Dev nD) :
    (dats m ρ r 0 c).Φ (Fin.last cfg0.N) ⊢ iprop(unscopedSems0 c ∗ Pipeline.ownSems0 osem c ∗ Pipeline.scopedRest cfg0.spec c) := by
  rw [show (dats m ρ r 0 c).Φ (Fin.last cfg0.N) = Φ₁ c from rfl, scopedRest0_eq, ownSems0_eq, unscopedSems0_eq]
  unfold Φ₁
  iintro ⟨Hz, HB⟩
  isplitl [HB]; · iexact HB
  isplitl [Hz]; · iexact Hz
  iempintro

omit [FloatOps F] in
theorem dues_pos : ∀ x ∈ dues, 0 < lvDue x := by decide

theorem waits (c : Dev nD) : (levAts L lv : sProp 𝕄) ⊢ Pipeline.cellsWaits cfgs (dats m ρ r) () 0 c :=
  Pipeline.cellsWaits_intro cfgs (dats m ρ r) () 0 c fun w s t => by
    have h0 : lv ((c : Thread nD τ), .dma ((cfg0.win w).sem s)) () ≤ 0 := by
      fin_cases w <;> fin_cases s <;> exact (by decide : (0 : ℕ) ≤ 0)
    rcases t with ⟨_ | _, ht⟩
    · exact mayWait r c _ dues 0 h0 dues_pos
    · exact mayWait r c _ [] 0 h0 (fun x hx => absurd hx List.not_mem_nil)

/-! ### The run -/

def finalA (c : Dev nD) (w : Fin cfg0.W) : Buf (Elt F) ((cfg0.win w).arr.view.loc (c : Thread nD τ)) := (dats m ρ r 0 c).arrAt w cfg0.N

def QC : PUnit × MemSt nD τ sig (Elt F) → Prop := fun s =>
  ∀ c : Dev nD, ∀ w : Fin cfg0.W, s.2.mem ((cfg0.win w).arr.view.loc (c : Thread nD τ)) = finalA m ρ r c w

set_option maxRecDepth 8000 in
/-- From any memory with zero counters in which every device's permutation starts with the word of the rotation by `r`: every
    fair execution ends, with the result arrays computed, the arguments unchanged and every counter at zero. -/
theorem run_main (hpi : ∀ c, wAt m ρ c = w0 r) :
    θ_run defs (onTc (τ := τ) (main (F := F))) (s₀ m ρ) (fun s => QC m ρ r s ∧ s.2.sem = fun _ => 0) :=
  Pipeline.θ_run_region_owing_glob_pf (fun p => (cfgs p).toPCfg) (fun p => (cfgs p).toPCfg_adm) (dats m ρ r) () cellOf_inj (0 : Fin 1)
    winFacts0.to₀ ownSemFacts (Pipeline.PreFacts.none _) EP defs₀ 𝒱₀ m ρ main
    (hmain := fun _ => rfl)
    (hbody := body_obligation m ρ r hpi) (hne := fun w => by fin_cases w <;> exact Nat.succ_pos _) (harr := arr_whole0) (hstage := stage_whole0) (hshare := share_eq m ρ r)
    (hdistinct := winFacts0.arr_inj)
    (O₀ := fun d => owedL r d dues) (howed₀ := fun _ => rfl) (howedN := fun _ => rfl)
    (L := L) (lv := lv) (hL := L_of_ne) (hwaits := waits m ρ r)
    (G := G m ρ r) (G' := G' m ρ r) (u₀ := u₀)
    (hu₀ := by
      unfold u₀
      iintro Hu
      ihave H := (ownU_pair _ _) $$ Hu
      icases H with ⟨HP, HX⟩
      imod (fund_cells m ρ r) $$ HX with HG
      imodintro
      isplitl [HP] <;> iassumption)
    (hglob := glob m ρ r)
    (hA := fun _ _ => rfl) (hpf := fun _ k => k.elim0)
    (X := Φ₀ m ρ r) (Y := fun c => unscopedSems0 c) (Z := fun _ => iprop(emp))
    (hX := start_intro m ρ r) (hin := phi0_intro m ρ r) (hout := phi1_exit m ρ r)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem finalA_x (c : Dev nD) : finalA m ρ r c (0 : Fin 3) = (s₀ m ρ).mem (win0_0.arr.view.loc (c : Thread nD τ)) :=
  (dats (F := F) m ρ r 0 c).arrAt_in (0 : Fin 3) rfl _
theorem finalA_p (c : Dev nD) : finalA m ρ r c (1 : Fin 3) = (s₀ m ρ).mem (win0_1.arr.view.loc (c : Thread nD τ)) :=
  (dats (F := F) m ρ r 0 c).arrAt_in (1 : Fin 3) rfl _

end Cert.KProof

end
-- ==== Proof.Value.lean ====
/-
# What the run leaves in the arrays

The staged blocks are the argument arrays, the written-back block is the result array, and under the claim's layout the result on
device `c` is the block of the device whose third mesh coordinate is `r` further on.
-/
module

public import proofs.«01_k».proof.Proof.Launch
public import Idealize.ShloMosaic.Lib.Pipeline.BigSepL
public import Idealize.ShloMosaic.Lib.Pipeline.CollectiveSegs
public import Idealize.ShloMosaic.Lib.Pipeline.ValueKit
public import Idealize.ShloMosaic.Lib.Layout
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (r : Fin 4)

theorem xstg_eq (c : Dev nD) : xstg m ρ c = m ((c.tc : Thread nD τ).loc main_arg0) := by
  funext i
  unfold xstg
  refine (View.read_apply ..).trans ?_
  have h : (win0_0.blk (0 : Fin 1)).view.emb i = i := by
    funext a
    refine Fin.ext ?_
    exact Pipeline.Window.rect_emb_val_of_index_zero win0_0 t0_0 a ((by decide : ∀ a : Fin 3, win0_0.index t0_0 a = 0) a) i
  rw [h]; rfl

theorem pstg_eq (c : Dev nD) : pstg m ρ c = m ((c.tc : Thread nD τ).loc main_arg1) := by
  funext i
  unfold pstg
  refine (View.read_apply ..).trans ?_
  have h : (win0_1.blk (0 : Fin 1)).view.emb i = i := by
    funext a
    refine Fin.ext ?_
    exact Pipeline.Window.rect_emb_val_of_index_zero win0_1 t0_0 a ((by decide : ∀ a : Fin 1, win0_1.index t0_0 a = 0) a) i
  rw [h]; rfl

theorem finalA_out (c : Dev nD) : finalA m ρ r c (2 : Fin 3) = outAt m ρ r c := by
  refine (dats m ρ r 0 c).arrAt_eq_of_after_last (2 : Fin 3) t0_0 (by decide +kernel) _ fun j => ?_
  rfl

/-- The first word of a permutation. -/
def head4 : S4.Idx := fun a => ⟨0, by fin_cases a; decide⟩

theorem wAt_eq (c : Dev nD) : wAt m ρ c = m ((c.tc : Thread nD τ).loc main_arg1) head4 := by
  unfold wAt
  rw [pstg_eq]
  refine (View.read_apply ..).trans ?_
  refine congrArg (m ((c.tc : Thread nD τ).loc main_arg1)) ?_
  funext a
  refine Fin.ext ?_
  show ((Rect.unit (s := S4) ![0] S1.size inb_S4_S1_0).emb (Shape.Idx.first (by decide)) a).val = 0
  rw [Rect.emb_apply]
  fin_cases a
  decide

/-- The run, in the words of the claims. -/
theorem run_arrays (h0 : ∀ c : Dev nD, m ((c.tc : Thread nD τ).loc main_arg1) head4 = w0 r) :
    θ_run defs (onTc (τ := τ) (main (F := F))) ⟨m, fun _ => 0, ρ⟩ (fun s => (∀ c : Dev nD,
        s.2.mem ((c.tc : Thread nD τ).loc main_v1) = outAt m ρ r c
        ∧ s.2.mem ((c.tc : Thread nD τ).loc main_arg0) = m ((c.tc : Thread nD τ).loc main_arg0)
        ∧ s.2.mem ((c.tc : Thread nD τ).loc main_arg1) = m ((c.tc : Thread nD τ).loc main_arg1))
      ∧ s.2.sem = fun _ => 0) :=
  (θ_run defs _ _).mono (fun _ h => ⟨fun c =>
    ⟨(h.1 c (2 : Fin 3)).trans (finalA_out m ρ r c), (h.1 c (0 : Fin 3)).trans (finalA_x m ρ r c), (h.1 c (1 : Fin 3)).trans (finalA_p m ρ r c)⟩, h.2⟩)
    (run_main m ρ r fun c => (wAt_eq m ρ c).trans (h0 c))

/-! ## The devices a result comes from -/

/-- Whichever way a block took, it started at a device whose third coordinate is `r` further on. -/
theorem root_z : ∀ (r k : Fin 4) (c : Dev nD), (root r k c).val % 4 = (c.val % 4 + r.val) % 4 := by decide +kernel

/-- Device `d`'s block of an array cut along the mesh's third axis. -/
abbrev cut (d : Dev nD) (v : (⟨3, ![4, 2048, 1024]⟩ : Shape).Idx → Elt F .f32) : S1x2048x1024.Idx → Elt F .f32 :=
  Layout.blockN ⟨3, ![1, 2048, 1024]⟩ ⟨3, ![4, 2048, 1024]⟩ (Layout.meshBlock [2, 4, 4] ![[2], [], []] d) v

/-- Where element `i` of a device's block is in the whole array. -/
def inWhole (z : Fin 4) (i : S1x2048x1024.Idx) : (⟨3, ![4, 2048, 1024]⟩ : Shape).Idx
  | ⟨0, _⟩ => z
  | ⟨1, _⟩ => i 1
  | ⟨2, _⟩ => i 2

theorem third : ∀ d : Dev nD, ((Layout.meshBlock [2, 4, 4] ![[2], [], []] d : (b : Fin 3) → Fin (Layout.cutSize [2, 4, 4] (![[2], [], []] b))) 0).val = d.val % 4 := by
  decide +kernel

omit [FloatOps F] in
theorem cut_apply (d : Dev nD) (v : (⟨3, ![4, 2048, 1024]⟩ : Shape).Idx → Elt F .f32) (i : S1x2048x1024.Idx) :
    cut d v i = v (inWhole ⟨d.val % 4, Nat.mod_lt _ (by decide)⟩ i) := by
  refine congrArg v (funext fun a => Fin.ext ?_)
  refine (Layout.TilesN.idx_val ..).trans ?_
  have hz : (i 0).val = 0 := Nat.lt_one_iff.mp (i 0).isLt
  fin_cases a
  · show _ * 1 + (i 0).val = d.val % 4
    rw [hz]; exact (congrArg (· * 1 + 0) (third d)).trans (by omega)
  · show 0 * 2048 + (i 1).val = (i 1).val
    omega
  · show 0 * 1024 + (i 2).val = (i 2).val
    omega

/-- Under the claim's layout the result on device `c`, element by element. -/
theorem outAt_apply (v : (⟨3, ![4, 2048, 1024]⟩ : Shape).Idx → Elt F .f32)
    (hx : ∀ d : Dev nD, m ((d.tc : Thread nD τ).loc main_arg0) = cut d v) (c : Dev nD) (i : S1x2048x1024.Idx) :
    outAt m ρ r c i = v (inWhole ⟨(c.val % 4 + r.val) % 4, Nat.mod_lt _ (by decide)⟩ i) := by
  unfold outAt
  rw [xstg_eq, hx, cut_apply]
  exact congrArg (fun z => v (inWhole z i)) (Fin.ext (root_z ..))

end Cert.KProof

end
-- ==== Proof.lean ====
/-
# The claims

One run, over any float values, gives every frame and the values; the reference's run gives the other side.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Reference
public import proofs.«01_k».proof.Proof.Pre
public import proofs.«01_k».proof.Proof.Value
public import Idealize.ShloMosaic.Adequacy
public import Idealize.ShloMosaic.Init

@[expose] public section

noncomputable section

namespace Cert.Proof

open Idealize.ShloMosaic Idealize.SL.Sem Cert.KRef

theorem turn_head : ∀ r : Fin 4, turn r Cert.KProof.head4 = Cert.KProof.w0 r := by decide +kernel

/-- The kernel, under one rotation on every device, over any float values. -/
theorem frame_any {F : FTy → Type} [FloatOps F] (r : Fin 4) (m : (ℓ : Loc Cert.KernelIdeal.nD Cert.KernelIdeal.τ Cert.KernelIdeal.sig) → Buf (Elt F) ℓ) (g : Dev Cert.KernelIdeal.nD → PrngReg)
    (h : ∀ c : Dev Cert.KernelIdeal.nD, m ((c.tc : Thread Cert.KernelIdeal.nD Cert.KernelIdeal.τ).loc Cert.KernelIdeal.main_arg1) = turn r) :
    θ_run (Cert.KernelIdeal.defs (F := F)) (onTc (τ := Cert.KernelIdeal.τ) (Cert.KernelIdeal.main (F := F))) ⟨m, fun _ => 0, g⟩ (fun s => (∀ c : Dev Cert.KernelIdeal.nD,
      s.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ s.2.sem = fun _ => 0) :=
  (θ_run (Cert.KernelIdeal.defs (F := F)) _ _).mono (fun _ q => ⟨fun c => (q.1 c).2, q.2⟩)
    (Cert.KProof.run_arrays (F := F) m g r fun c => (congrFun (h c) _).trans (turn_head r))

section Same

variable {F : FTy → Type} [FloatOps F]

/-- No operation was rewritten for exact values, so the two printings have the same bodies. -/
theorem bodies_eq : Cert.Kernel.defs₀ (F := F) = Cert.KernelIdeal.defs₀ (F := F) := by
  funext p l a
  cases p with
  | tc =>
    match l, a with
    | ⟨0, _⟩, _ => rfl
    | ⟨_ + 1, h⟩, _ => exact absurd h (Nat.not_lt.2 (Nat.le_add_left _ _))
  | scScalar _ => rfl
  | scVector _ _ => rfl

theorem defs_eq : Cert.Kernel.defs (F := F) = Cert.KernelIdeal.defs (F := F) :=
  congrArg (Pipeline.defs (Cert.KernelIdeal.pcfgs (F := F))) bodies_eq

theorem run_eq : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) :=
  congrArg (fun D => θ_run D (onTc (τ := Cert.KernelIdeal.τ) (Cert.KernelIdeal.main (F := F)))) defs_eq

end Same

/-- The printed kernel, under one rotation on every device. -/
theorem bits_frame (r : Fin 4) (m : (ℓ : Loc Cert.Kernel.nD Cert.Kernel.τ Cert.Kernel.sig) → Buf (Elt Bits) ℓ) (g : Dev Cert.Kernel.nD → PrngReg)
    (h : ∀ c : Dev Cert.Kernel.nD, m ((c.tc : Thread Cert.Kernel.nD Cert.Kernel.τ).loc Cert.Kernel.main_arg1) = turn r) :
    θ_run (Cert.Kernel.defs (F := Bits)) (onTc (τ := Cert.Kernel.τ) (Cert.Kernel.main (F := Bits))) ⟨m, fun _ => 0, g⟩ (fun s => (∀ c : Dev Cert.Kernel.nD,
      s.2.mem ((c.tc : Thread Cert.Kernel.nD Cert.Kernel.τ).loc Cert.Kernel.main_arg0) = m ((c.tc : Thread Cert.Kernel.nD Cert.Kernel.τ).loc Cert.Kernel.main_arg0)
      ∧ s.2.mem ((c.tc : Thread Cert.Kernel.nD Cert.Kernel.τ).loc Cert.Kernel.main_arg1) = m ((c.tc : Thread Cert.Kernel.nD Cert.Kernel.τ).loc Cert.Kernel.main_arg1))
      ∧ s.2.sem = fun _ => 0) := by
  rw [run_eq (F := Bits)]
  exact frame_any (F := Bits) r m g h

/-- The reference: it has no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r q => ⟨fun c => (q c).2, Idealize.ShloMosaic.sem_eq_zero_of_no_sems (by decide) r.2⟩) (run_result m g)

/-- Element `i` of device `c`'s block of the reference's result. -/
theorem value_at (r : Fin 4) (x : Cert.ReferenceIdeal.S4x2048x1024.Idx → Elt Ideal .f32) (c : Dev Cert.KernelIdeal.nD) (i : Cert.KernelIdeal.S1x2048x1024.Idx) :
    x (Cert.KProof.inWhole ⟨(c.val % 4 + r.val) % 4, Nat.mod_lt _ (by decide)⟩ i) = Cert.KProof.cut c (result (turn r) x) i := by
  rw [Cert.KProof.cut_apply, result_turn]
  refine congrArg x (funext fun a => ?_)
  fin_cases a <;> rfl

/-- Under one rotation and the claim's layout the kernel computes the reference, each device its block. -/
theorem values (r : Fin 4) (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev Cert.KernelIdeal.nD, m ((c.tc : Thread Cert.KernelIdeal.nD Cert.KernelIdeal.τ).loc Cert.KernelIdeal.main_arg1) = turn r)
    (hm : ∀ c : Dev Cert.KernelIdeal.nD,
      m ((c.tc : Thread Cert.KernelIdeal.nD Cert.KernelIdeal.τ).loc Cert.KernelIdeal.main_arg0) = Layout.blockN ⟨3, ![1, 2048, 1024]⟩ ⟨3, ![4, 2048, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![4, 2048, 1024]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨result (turn r) (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ q c => ⟨(q.1 c).1.trans (funext fun i => ?_), (q.1 c).2⟩)
      (Cert.KProof.run_arrays (F := Ideal) m g r fun c => (congrFun (h c) _).trans (turn_head r))
    exact (Cert.KProof.outAt_apply m g r _ (fun d => (hm d).1) c i).trans (value_at r _ c i)
  · have hp : m' (((0 : Dev Cert.ReferenceIdeal.nD).tc : Thread Cert.ReferenceIdeal.nD Cert.ReferenceIdeal.τ).loc Cert.ReferenceIdeal.main_arg1) = turn r :=
      (hm 0).2.symm.trans (h 0)
    exact (θ_run Cert.ReferenceIdeal.defs _ _).mono (fun _ q => ⟨(q 0).1.trans (congrArg (fun p => result p _) hp), (q 0).2⟩) (run_result m' g')

theorem claim : Cert.Claim :=
  ⟨Cert.Kernel.Gen.facts, Cert.KernelIdeal.Gen.facts, Cert.ReferenceIdeal.Gen.facts,
    Cert.KPre.rot0_Kernel, Cert.KPre.rot1_Kernel, Cert.KPre.rot2_Kernel, Cert.KPre.rot3_Kernel,
    Cert.KPre.rot0_ReferenceIdeal, Cert.KPre.rot1_ReferenceIdeal, Cert.KPre.rot2_ReferenceIdeal, Cert.KPre.rot3_ReferenceIdeal,
    fun m g h => bits_frame 0 m g fun c => Cert.KPre.turn0 _ _ (h c),
    fun m g h => bits_frame 1 m g fun c => Cert.KPre.turn1 _ _ (h c),
    fun m g h => bits_frame 2 m g fun c => Cert.KPre.turn2 _ _ (h c),
    fun m g h => bits_frame 3 m g fun c => Cert.KPre.turn3 _ _ (h c),
    fun m g h => frame_any 0 m g fun c => Cert.KPre.turn0 _ _ (h c),
    fun m g h => frame_any 1 m g fun c => Cert.KPre.turn1 _ _ (h c),
    fun m g h => frame_any 2 m g fun c => Cert.KPre.turn2 _ _ (h c),
    fun m g h => frame_any 3 m g fun c => Cert.KPre.turn3 _ _ (h c),
    fun m g _ => reference_frame m g, fun m g _ => reference_frame m g, fun m g _ => reference_frame m g,
    fun m g _ => reference_frame m g, fun m g _ => reference_frame m g,
    trivial,
    fun m g m' g' h hm => values 0 m g m' g' (fun c => Cert.KPre.turn0 _ _ (h c)) hm,
    fun m g m' g' h hm => values 1 m g m' g' (fun c => Cert.KPre.turn1 _ _ (h c)) hm,
    fun m g m' g' h hm => values 2 m g m' g' (fun c => Cert.KPre.turn2 _ _ (h c)) hm,
    fun m g m' g' h hm => values 3 m g m' g' (fun c => Cert.KPre.turn3 _ _ (h c)) hm⟩

end Cert.Proof

end
